-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S2x128x91x180 : Shape := ⟨4, ![2, 128, 91, 180]⟩
abbrev S128x128x3 : Shape := ⟨3, ![128, 128, 3]⟩
abbrev S128 : Shape := ⟨1, ![128]⟩
abbrev S3x91x91x180 : Shape := ⟨4, ![3, 91, 91, 180]⟩
abbrev S_ : Shape := ⟨0, ![]⟩

class Facts : Prop where
  bcast_S_S2x128x91x180 : S_.BroadcastsInDim S2x128x91x180 (![] : Fin 0 → Fin S2x128x91x180.rank)
  reducesTo_S2x128x91x180_S_d0_1_2_3 : S2x128x91x180.ReducesTo [0, 1, 2, 3] S_
  h_S_ : 0 < S_.numel
  bcast_S_S128x128x3 : S_.BroadcastsInDim S128x128x3 (![] : Fin 0 → Fin S128x128x3.rank)
  reducesTo_S128x128x3_S_d0_1_2 : S128x128x3.ReducesTo [0, 1, 2] S_
  bcast_S_S3x91x91x180 : S_.BroadcastsInDim S3x91x91x180 (![] : Fin 0 → Fin S3x91x91x180.rank)
  reducesTo_S3x91x91x180_S_d0_1_2_3 : S3x91x91x180.ReducesTo [0, 1, 2, 3] S_

variable [Facts]

def fn_part1 {F : FTy → Type} [FloatOps F] (main_arg3 : FVec F S3x91x91x180 .f32) (main_v13 : IVec S_ 1) (main_v15 : IVec S3x91x91x180 32) (main_v16 : IVec S3x91x91x180 32) (main_v17 : IVec S3x91x91x180 32) : IVec S_ 1 :=
  let main_v18 : IVec S3x91x91x180 32 := subi main_v16 main_v15
  let main_v19 : IVec S3x91x91x180 32 := absi main_v18
  let main_c_4 : IVec S_ 32 := constantI S_ 32 2#32
  let main_v20 : IVec S3x91x91x180 32 := broadcastInDim S3x91x91x180 ![] bcast_S_S3x91x91x180 main_c_4
  let main_v21 : IVec S3x91x91x180 1 := cmpi .sle main_v19 main_v20
  let main_c_5 : IVec S_ 32 := constantI S_ 32 4#32
  let main_v22 : IVec S3x91x91x180 32 := broadcastInDim S3x91x91x180 ![] bcast_S_S3x91x91x180 main_c_5
  let main_v23 : IVec S3x91x91x180 1 := cmpi .sle main_v17 main_v22
  let main_c_6 : IVec S_ 32 := constantI S_ 32 176#32
  let main_v24 : IVec S3x91x91x180 32 := broadcastInDim S3x91x91x180 ![] bcast_S_S3x91x91x180 main_c_6
  let main_v25 : IVec S3x91x91x180 1 := cmpi .sge main_v17 main_v24
  let main_v26 : IVec S3x91x91x180 1 := ori main_v23 main_v25
  let main_v27 : IVec S3x91x91x180 1 := andi main_v21 main_v26
  let main_cst_7 : FVec F S_ .f32 := constant S_ .f32 0x00000000#32
  let main_v28 : FVec F S3x91x91x180 .f32 := broadcastInDim S3x91x91x180 ![] bcast_S_S3x91x91x180 main_cst_7
  let main_v29 : IVec S3x91x91x180 1 := cmpf .oeq main_arg3 main_v28
  let main_v30 : IVec S3x91x91x180 1 := ori main_v27 main_v29
  let main_c_8 : IVec S_ 1 := constantI S_ 1 1#1
  let main_v31 : IVec S_ 1 := (fun x v => Host.reduce IntOp.andi x v reducesTo_S3x91x91x180_S_d0_1_2_3 h_S_) main_v30 main_c_8
  let main_v32 : IVec S_ 1 := andi main_v13 main_v31
  main_v32

def fn {F : FTy → Type} [FloatOps F] (main_arg0 : FVec F S2x128x91x180 .f32) (main_arg1 : FVec F S128x128x3 .f32) (main_arg2 : FVec F S128 .f32) (main_arg3 : FVec F S3x91x91x180 .f32) : IVec S_ 1 :=
  let main_v0 : FVec F S2x128x91x180 .f32 := Host.absf main_arg0
  let main_cst : FVec F S_ .f32 := constant S_ .f32 0x7F800000#32
  let main_v1 : FVec F S2x128x91x180 .f32 := broadcastInDim S2x128x91x180 ![] bcast_S_S2x128x91x180 main_cst
  let main_v2 : IVec S2x128x91x180 1 := cmpf .olt main_v0 main_v1
  let main_c : IVec S_ 1 := constantI S_ 1 1#1
  let main_v3 : IVec S_ 1 := (fun x v => Host.reduce IntOp.andi x v reducesTo_S2x128x91x180_S_d0_1_2_3 h_S_) main_v2 main_c
  let main_v4 : FVec F S128x128x3 .f32 := Host.absf main_arg1
  let main_cst_0 : FVec F S_ .f32 := constant S_ .f32 0x7F800000#32
  let main_v5 : FVec F S128x128x3 .f32 := broadcastInDim S128x128x3 ![] bcast_S_S128x128x3 main_cst_0
  let main_v6 : IVec S128x128x3 1 := cmpf .olt main_v4 main_v5
  let main_c_1 : IVec S_ 1 := constantI S_ 1 1#1
  let main_v7 : IVec S_ 1 := (fun x v => Host.reduce IntOp.andi x v reducesTo_S128x128x3_S_d0_1_2 h_S_) main_v6 main_c_1
  let main_v8 : IVec S_ 1 := andi main_v3 main_v7
  let main_v9 : FVec F S3x91x91x180 .f32 := Host.absf main_arg3
  let main_cst_2 : FVec F S_ .f32 := constant S_ .f32 0x7F800000#32
  let main_v10 : FVec F S3x91x91x180 .f32 := broadcastInDim S3x91x91x180 ![] bcast_S_S3x91x91x180 main_cst_2
  let main_v11 : IVec S3x91x91x180 1 := cmpf .olt main_v9 main_v10
  let main_c_3 : IVec S_ 1 := constantI S_ 1 1#1
  let main_v12 : IVec S_ 1 := (fun x v => Host.reduce IntOp.andi x v reducesTo_S3x91x91x180_S_d0_1_2_3 h_S_) main_v11 main_c_3
  let main_v13 : IVec S_ 1 := andi main_v8 main_v12
  let main_v14 : IVec S3x91x91x180 32 := iotaInDim S3x91x91x180 32 0
  let main_v15 : IVec S3x91x91x180 32 := iotaInDim S3x91x91x180 32 1
  let main_v16 : IVec S3x91x91x180 32 := iotaInDim S3x91x91x180 32 2
  let main_v17 : IVec S3x91x91x180 32 := iotaInDim S3x91x91x180 32 3
  fn_part1 (F := F) main_arg3 main_v13 main_v15 main_v16 main_v17
-- ==== Kernel.lean ====
abbrev S2x128x91x180 : Shape := ⟨4, ![2, 128, 91, 180]⟩
abbrev S128x128x3 : Shape := ⟨3, ![128, 128, 3]⟩
abbrev S128 : Shape := ⟨1, ![128]⟩
abbrev S3x91x91x180 : Shape := ⟨4, ![3, 91, 91, 180]⟩
abbrev S256x91x180 : Shape := ⟨3, ![256, 91, 180]⟩
abbrev S91x256x180 : Shape := ⟨3, ![91, 256, 180]⟩
abbrev S_ : Shape := ⟨0, ![]⟩
abbrev S100x256x180 : Shape := ⟨3, ![100, 256, 180]⟩
abbrev S91 : Shape := ⟨1, ![91]⟩
abbrev S180 : Shape := ⟨1, ![180]⟩
abbrev S180x1 : Shape := ⟨2, ![180, 1]⟩
abbrev S1x91 : Shape := ⟨2, ![1, 91]⟩
abbrev S180x91 : Shape := ⟨2, ![180, 91]⟩
abbrev S180x256 : Shape := ⟨2, ![180, 256]⟩
abbrev S1 : Shape := ⟨1, ![1]⟩
abbrev S256x192 : Shape := ⟨2, ![256, 192]⟩
abbrev S91x1 : Shape := ⟨2, ![91, 1]⟩
abbrev S91x180 : Shape := ⟨2, ![91, 180]⟩
abbrev S2 : Shape := ⟨1, ![2]⟩
abbrev S96 : Shape := ⟨1, ![96]⟩
abbrev S96x1 : Shape := ⟨2, ![96, 1]⟩
abbrev S5 : Shape := ⟨1, ![5]⟩
abbrev S1x5 : Shape := ⟨2, ![1, 5]⟩
abbrev S96x5 : Shape := ⟨2, ![96, 5]⟩
abbrev S9 : Shape := ⟨1, ![9]⟩
abbrev S96x1x1 : Shape := ⟨3, ![96, 1, 1]⟩
abbrev S96x5x1 : Shape := ⟨3, ![96, 5, 1]⟩
abbrev S1x1x9 : Shape := ⟨3, ![1, 1, 9]⟩
abbrev S96x5x9 : Shape := ⟨3, ![96, 5, 9]⟩
abbrev S96x5x9x1 : Shape := ⟨4, ![96, 5, 9, 1]⟩
abbrev S96x5x9x3 : Shape := ⟨4, ![96, 5, 9, 3]⟩
abbrev S3x96x5x9 : Shape := ⟨4, ![3, 96, 5, 9]⟩
abbrev S1x96x5x1 : Shape := ⟨4, ![1, 96, 5, 1]⟩
abbrev S96x3x5x9 : Shape := ⟨4, ![96, 3, 5, 9]⟩
abbrev S1x9 : Shape := ⟨2, ![1, 9]⟩
abbrev S91x9 : Shape := ⟨2, ![91, 9]⟩
abbrev S96x3x5x1x9 : Shape := ⟨5, ![96, 3, 5, 1, 9]⟩
abbrev S1x1x1x91x9 : Shape := ⟨5, ![1, 1, 1, 91, 9]⟩
abbrev S96x3x5x91x9 : Shape := ⟨5, ![96, 3, 5, 91, 9]⟩
abbrev S96x3x5x91 : Shape := ⟨4, ![96, 3, 5, 91]⟩
abbrev S96x3x5x1x91 : Shape := ⟨5, ![96, 3, 5, 1, 91]⟩
abbrev S96x3x5x2x91 : Shape := ⟨5, ![96, 3, 5, 2, 91]⟩
abbrev S96x30x91 : Shape := ⟨3, ![96, 30, 91]⟩
abbrev S96x30x96 : Shape := ⟨3, ![96, 30, 96]⟩
abbrev S128x3x128 : Shape := ⟨3, ![128, 3, 128]⟩
abbrev S128x384 : Shape := ⟨2, ![128, 384]⟩
abbrev S100x256x256 : Shape := ⟨3, ![100, 256, 256]⟩
abbrev S2x96x128x192 : Shape := ⟨4, ![2, 96, 128, 192]⟩
abbrev S2x128x96x192 : Shape := ⟨4, ![2, 128, 96, 192]⟩
abbrev S1x128x1x1 : Shape := ⟨4, ![1, 128, 1, 1]⟩
abbrev S25x256x180 : Shape := ⟨3, ![25, 256, 180]⟩
abbrev S25x256x256 : Shape := ⟨3, ![25, 256, 256]⟩
abbrev S2x1x128x192 : Shape := ⟨4, ![2, 1, 128, 192]⟩
abbrev S2x384x256 : Shape := ⟨3, ![2, 384, 256]⟩
abbrev S1x30x96 : Shape := ⟨3, ![1, 30, 96]⟩
abbrev S30x96 : Shape := ⟨2, ![30, 96]⟩
abbrev S1x32x96 : Shape := ⟨3, ![1, 32, 96]⟩
abbrev S32x96 : Shape := ⟨2, ![32, 96]⟩
abbrev S1x96 : Shape := ⟨2, ![1, 96]⟩
abbrev S1x384x256 : Shape := ⟨3, ![1, 384, 256]⟩
abbrev S384x256 : Shape := ⟨2, ![384, 256]⟩
abbrev S128x256 : Shape := ⟨2, ![128, 256]⟩
abbrev S128x192 : Shape := ⟨2, ![128, 192]⟩
abbrev S1x1x128x192 : Shape := ⟨4, ![1, 1, 128, 192]⟩

abbrev nBuf : Space → Nat
  | .hbm => 233
  | .vmem => 12
  | .smem => 0
  | _ => 0

abbrev hbmTy0_0 (i : Nat) : BufTy := match i % 128 with
  | 0 => ⟨S2x128x91x180, .f32⟩
  | 1 => ⟨S128x128x3, .f32⟩
  | 2 => ⟨S128, .f32⟩
  | 3 => ⟨S3x91x91x180, .f32⟩
  | 4 => ⟨S256x91x180, .f32⟩
  | 5 => ⟨S91x256x180, .f32⟩
  | 6 => ⟨S_, .i32⟩
  | 7 => ⟨S_, .f32⟩
  | 8 => ⟨S100x256x180, .f32⟩
  | 9 => ⟨S100x256x180, .bf16⟩
  | 10 => ⟨S91, .f32⟩
  | 11 => ⟨S180, .f32⟩
  | 12 => ⟨S_, .f32⟩
  | 13 => ⟨S_, .f32⟩
  | 14 => ⟨S_, .f32⟩
  | 15 => ⟨S_, .f32⟩
  | 16 => ⟨S180x1, .f32⟩
  | 17 => ⟨S180x1, .f32⟩
  | 18 => ⟨S180x1, .f32⟩
  | 19 => ⟨S1x91, .f32⟩
  | 20 => ⟨S180x91, .f32⟩
  | 21 => ⟨S180x91, .f32⟩
  | 22 => ⟨S180x91, .f32⟩
  | 23 => ⟨S_, .f32⟩
  | 24 => ⟨S180x91, .f32⟩
  | 25 => ⟨S180x91, .f32⟩
  | 26 => ⟨S_, .f32⟩
  | 27 => ⟨S180x256, .f32⟩
  | 28 => ⟨S180x91, .f32⟩
  | 29 => ⟨S_, .i32⟩
  | 30 => ⟨S1, .i32⟩
  | 31 => ⟨S180x256, .f32⟩
  | 32 => ⟨S180x91, .f32⟩
  | 33 => ⟨S180x91, .f32⟩
  | 34 => ⟨S_, .i32⟩
  | 35 => ⟨S1, .i32⟩
  | 36 => ⟨S180x256, .f32⟩
  | 37 => ⟨S_, .f32⟩
  | 38 => ⟨S91, .f32⟩
  | 39 => ⟨S91, .i1⟩
  | 40 => ⟨S_, .f32⟩
  | 41 => ⟨S91, .f32⟩
  | 42 => ⟨S91, .i1⟩
  | 43 => ⟨S91, .i1⟩
  | 44 => ⟨S_, .f32⟩
  | 45 => ⟨S_, .f32⟩
  | 46 => ⟨S91, .f32⟩
  | 47 => ⟨S91, .f32⟩
  | 48 => ⟨S91, .f32⟩
  | 49 => ⟨S_, .f32⟩
  | 50 => ⟨S256x192, .f32⟩
  | 51 => ⟨S91x1, .f32⟩
  | 52 => ⟨S91x180, .f32⟩
  | 53 => ⟨S91x180, .f32⟩
  | 54 => ⟨S91x1, .f32⟩
  | 55 => ⟨S91x180, .f32⟩
  | 56 => ⟨S91x180, .f32⟩
  | 57 => ⟨S_, .f32⟩
  | 58 => ⟨S91x180, .f32⟩
  | 59 => ⟨S91x180, .f32⟩
  | 60 => ⟨S_, .i32⟩
  | 61 => ⟨S1, .i32⟩
  | 62 => ⟨S_, .i32⟩
  | 63 => ⟨S1, .i32⟩
  | 64 => ⟨S2, .i32⟩
  | 65 => ⟨S256x192, .f32⟩
  | 66 => ⟨S91x1, .f32⟩
  | 67 => ⟨S91x1, .f32⟩
  | 68 => ⟨S91x180, .f32⟩
  | 69 => ⟨S91x180, .f32⟩
  | 70 => ⟨S91x1, .f32⟩
  | 71 => ⟨S91x180, .f32⟩
  | 72 => ⟨S91x180, .f32⟩
  | 73 => ⟨S_, .f32⟩
  | 74 => ⟨S91x180, .f32⟩
  | 75 => ⟨S91x180, .f32⟩
  | 76 => ⟨S_, .i32⟩
  | 77 => ⟨S1, .i32⟩
  | 78 => ⟨S_, .i32⟩
  | 79 => ⟨S1, .i32⟩
  | 80 => ⟨S2, .i32⟩
  | 81 => ⟨S256x192, .f32⟩
  | 82 => ⟨S180x256, .bf16⟩
  | 83 => ⟨S256x192, .bf16⟩
  | 84 => ⟨S96, .i32⟩
  | 85 => ⟨S_, .i32⟩
  | 86 => ⟨S96, .i32⟩
  | 87 => ⟨S96, .i32⟩
  | 88 => ⟨S96x1, .i32⟩
  | 89 => ⟨S5, .i32⟩
  | 90 => ⟨S1x5, .i32⟩
  | 91 => ⟨S96x5, .i32⟩
  | 92 => ⟨S96x5, .i32⟩
  | 93 => ⟨S96x5, .i32⟩
  | 94 => ⟨S_, .i32⟩
  | 95 => ⟨S96x5, .i32⟩
  | 96 => ⟨S96x5, .i32⟩
  | 97 => ⟨S_, .i32⟩
  | 98 => ⟨S96x5, .i32⟩
  | 99 => ⟨S96x5, .i1⟩
  | 100 => ⟨S_, .i32⟩
  | 101 => ⟨S96x5, .i32⟩
  | 102 => ⟨S96x5, .i1⟩
  | 103 => ⟨S96x5, .i1⟩
  | 104 => ⟨S_, .i32⟩
  | 105 => ⟨S96, .i32⟩
  | 106 => ⟨S96, .i1⟩
  | 107 => ⟨S96x1, .i1⟩
  | 108 => ⟨S96x5, .i1⟩
  | 109 => ⟨S96x5, .i1⟩
  | 110 => ⟨S_, .i32⟩
  | 111 => ⟨S_, .i32⟩
  | 112 => ⟨S_, .i32⟩
  | 113 => ⟨S96x5, .i32⟩
  | 114 => ⟨S96x5, .i32⟩
  | 115 => ⟨S_, .i32⟩
  | 116 => ⟨S96x5, .i32⟩
  | 117 => ⟨S96x5, .i32⟩
  | 118 => ⟨S9, .i32⟩
  | 119 => ⟨S_, .i32⟩
  | 120 => ⟨S9, .i32⟩
  | 121 => ⟨S9, .i32⟩
  | 122 => ⟨S_, .i32⟩
  | 123 => ⟨S_, .i32⟩
  | 124 => ⟨S_, .i32⟩
  | 125 => ⟨S_, .i1⟩
  | 126 => ⟨S_, .i32⟩
  | 127 => ⟨S_, .i32⟩
  | _ => ⟨S2x128x91x180, .f32⟩

abbrev hbmTy0_1 (i : Nat) : BufTy := match i % 128 with
  | 0 => ⟨S9, .i32⟩
  | 1 => ⟨S9, .i32⟩
  | 2 => ⟨S_, .i32⟩
  | 3 => ⟨S9, .i32⟩
  | 4 => ⟨S9, .i1⟩
  | 5 => ⟨S_, .i32⟩
  | 6 => ⟨S9, .i32⟩
  | 7 => ⟨S9, .i1⟩
  | 8 => ⟨S_, .i32⟩
  | 9 => ⟨S_, .i1⟩
  | 10 => ⟨S9, .i1⟩
  | 11 => ⟨S9, .i1⟩
  | 12 => ⟨S9, .i1⟩
  | 13 => ⟨S9, .i32⟩
  | 14 => ⟨S9, .i32⟩
  | 15 => ⟨S9, .i32⟩
  | 16 => ⟨S96x1x1, .i32⟩
  | 17 => ⟨S96x5x1, .i32⟩
  | 18 => ⟨S1x1x9, .i32⟩
  | 19 => ⟨S_, .i32⟩
  | 20 => ⟨S96x1x1, .i32⟩
  | 21 => ⟨S96x1x1, .i1⟩
  | 22 => ⟨S_, .i32⟩
  | 23 => ⟨S96x1x1, .i32⟩
  | 24 => ⟨S96x1x1, .i32⟩
  | 25 => ⟨S96x1x1, .i32⟩
  | 26 => ⟨S_, .i32⟩
  | 27 => ⟨S96x5x1, .i32⟩
  | 28 => ⟨S96x5x1, .i1⟩
  | 29 => ⟨S_, .i32⟩
  | 30 => ⟨S96x5x1, .i32⟩
  | 31 => ⟨S96x5x1, .i32⟩
  | 32 => ⟨S96x5x1, .i32⟩
  | 33 => ⟨S_, .i32⟩
  | 34 => ⟨S1x1x9, .i32⟩
  | 35 => ⟨S1x1x9, .i1⟩
  | 36 => ⟨S_, .i32⟩
  | 37 => ⟨S1x1x9, .i32⟩
  | 38 => ⟨S1x1x9, .i32⟩
  | 39 => ⟨S1x1x9, .i32⟩
  | 40 => ⟨S96x5x9, .i32⟩
  | 41 => ⟨S96x5x9, .i32⟩
  | 42 => ⟨S96x5x9, .i32⟩
  | 43 => ⟨S96x5x9x1, .i32⟩
  | 44 => ⟨S96x5x9x1, .i32⟩
  | 45 => ⟨S96x5x9x1, .i32⟩
  | 46 => ⟨S96x5x9x3, .i32⟩
  | 47 => ⟨S3x96x5x9, .f32⟩
  | 48 => ⟨S1x96x5x1, .i1⟩
  | 49 => ⟨S1x96x5x1, .f32⟩
  | 50 => ⟨S3x96x5x9, .f32⟩
  | 51 => ⟨S3x96x5x9, .f32⟩
  | 52 => ⟨S96x3x5x9, .f32⟩
  | 53 => ⟨S91, .f32⟩
  | 54 => ⟨S9, .f32⟩
  | 55 => ⟨S_, .f32⟩
  | 56 => ⟨S9, .f32⟩
  | 57 => ⟨S9, .f32⟩
  | 58 => ⟨S_, .f32⟩
  | 59 => ⟨S_, .f32⟩
  | 60 => ⟨S_, .f32⟩
  | 61 => ⟨S_, .f32⟩
  | 62 => ⟨S91x1, .f32⟩
  | 63 => ⟨S91x1, .f32⟩
  | 64 => ⟨S91x1, .f32⟩
  | 65 => ⟨S1x9, .f32⟩
  | 66 => ⟨S91x9, .f32⟩
  | 67 => ⟨S91x9, .f32⟩
  | 68 => ⟨S91x9, .f32⟩
  | 69 => ⟨S_, .f32⟩
  | 70 => ⟨S91x9, .f32⟩
  | 71 => ⟨S91x9, .f32⟩
  | 72 => ⟨S96x3x5x1x9, .f32⟩
  | 73 => ⟨S91x9, .f32⟩
  | 74 => ⟨S1x1x1x91x9, .f32⟩
  | 75 => ⟨S96x3x5x91x9, .f32⟩
  | 76 => ⟨S96x3x5x91x9, .f32⟩
  | 77 => ⟨S96x3x5x91x9, .f32⟩
  | 78 => ⟨S_, .f32⟩
  | 79 => ⟨S96x3x5x91, .f32⟩
  | 80 => ⟨S96x3x5x1x9, .f32⟩
  | 81 => ⟨S91x9, .f32⟩
  | 82 => ⟨S1x1x1x91x9, .f32⟩
  | 83 => ⟨S96x3x5x91x9, .f32⟩
  | 84 => ⟨S96x3x5x91x9, .f32⟩
  | 85 => ⟨S96x3x5x91x9, .f32⟩
  | 86 => ⟨S_, .f32⟩
  | 87 => ⟨S96x3x5x91, .f32⟩
  | 88 => ⟨S96x3x5x1x91, .f32⟩
  | 89 => ⟨S96x3x5x1x91, .f32⟩
  | 90 => ⟨S96x3x5x2x91, .f32⟩
  | 91 => ⟨S96x30x91, .f32⟩
  | 92 => ⟨S_, .i32⟩
  | 93 => ⟨S_, .f32⟩
  | 94 => ⟨S96x30x96, .f32⟩
  | 95 => ⟨S128x3x128, .f32⟩
  | 96 => ⟨S128x384, .f32⟩
  | 97 => ⟨S128x384, .bf16⟩
  | 98 => ⟨S100x256x256, .f32⟩
  | 99 => ⟨S2x96x128x192, .f32⟩
  | 100 => ⟨S2x128x96x192, .f32⟩
  | 101 => ⟨S2x128x91x180, .f32⟩
  | 102 => ⟨S1x128x1x1, .f32⟩
  | 103 => ⟨S2x128x91x180, .f32⟩
  | 104 => ⟨S2x128x91x180, .f32⟩
  | _ => ⟨S2x128x91x180, .f32⟩

abbrev hbmTy (i : Nat) : BufTy := match i / 128 with
  | 0 => hbmTy0_0 i
  | 1 => hbmTy0_1 i
  | _ => ⟨S2x128x91x180, .f32⟩

abbrev bufTy : (tb : Table) → Fin (tcTables nBuf tb) → BufTy
  | .hbm, ⟨i, _⟩ => hbmTy i
  | .local _ .vmem, ⟨0, _⟩ => ⟨S25x256x180, .bf16⟩
  | .local _ .vmem, ⟨1, _⟩ => ⟨S25x256x180, .bf16⟩
  | .local _ .vmem, ⟨2, _⟩ => ⟨S180x256, .bf16⟩
  | .local _ .vmem, ⟨3, _⟩ => ⟨S25x256x256, .f32⟩
  | .local _ .vmem, ⟨4, _⟩ => ⟨S25x256x256, .f32⟩
  | .local _ .vmem, ⟨5, _⟩ => ⟨S100x256x256, .f32⟩
  | .local _ .vmem, ⟨6, _⟩ => ⟨S96x30x96, .f32⟩
  | .local _ .vmem, ⟨7, _⟩ => ⟨S128x384, .bf16⟩
  | .local _ .vmem, ⟨8, _⟩ => ⟨S256x192, .bf16⟩
  | .local _ .vmem, ⟨9, _⟩ => ⟨S2x1x128x192, .f32⟩
  | .local _ .vmem, ⟨10, _⟩ => ⟨S2x1x128x192, .f32⟩
  | .local _ .vmem, ⟨11, _⟩ => ⟨S2x384x256, .bf16⟩
  | _, _ => ⟨S2x128x91x180, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_c : Ref sig .tc := ⟨.hbm, 6, rfl⟩
abbrev main_call0_call0_v0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_cst : Ref sig .tc := ⟨.hbm, 12, rfl⟩
abbrev main_call0_v6 : Ref sig .tc := ⟨.hbm, 13, rfl⟩
abbrev main_call0_cst_0 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst_1 : Ref sig .tc := ⟨.hbm, 23, rfl⟩
abbrev main_call0_v15 : Ref sig .tc := ⟨.hbm, 24, rfl⟩
abbrev main_call0_v16 : Ref sig .tc := ⟨.hbm, 25, rfl⟩
abbrev main_call0_cst_2 : Ref sig .tc := ⟨.hbm, 26, rfl⟩
abbrev main_call0_v17 : Ref sig .tc := ⟨.hbm, 27, rfl⟩
abbrev main_call0_v18 : Ref sig .tc := ⟨.hbm, 28, rfl⟩
abbrev main_call0_c_3 : Ref sig .tc := ⟨.hbm, 29, rfl⟩
abbrev main_call0_v19 : Ref sig .tc := ⟨.hbm, 30, rfl⟩
abbrev main_call0_v20 : Ref sig .tc := ⟨.hbm, 31, rfl⟩
abbrev main_call0_v21 : Ref sig .tc := ⟨.hbm, 32, rfl⟩
abbrev main_call0_v22 : Ref sig .tc := ⟨.hbm, 33, rfl⟩
abbrev main_call0_c_4 : Ref sig .tc := ⟨.hbm, 34, rfl⟩
abbrev main_call0_v23 : Ref sig .tc := ⟨.hbm, 35, rfl⟩
abbrev main_call0_v24 : Ref sig .tc := ⟨.hbm, 36, rfl⟩
abbrev main_call0_cst_5 : Ref sig .tc := ⟨.hbm, 37, rfl⟩
abbrev main_call0_v25 : Ref sig .tc := ⟨.hbm, 38, rfl⟩
abbrev main_call0_v26 : Ref sig .tc := ⟨.hbm, 39, rfl⟩
abbrev main_call0_cst_6 : Ref sig .tc := ⟨.hbm, 40, rfl⟩
abbrev main_call0_v27 : Ref sig .tc := ⟨.hbm, 41, rfl⟩
abbrev main_call0_v28 : Ref sig .tc := ⟨.hbm, 42, rfl⟩
abbrev main_call0_v29 : Ref sig .tc := ⟨.hbm, 43, rfl⟩
abbrev main_call0_cst_7 : Ref sig .tc := ⟨.hbm, 44, rfl⟩
abbrev main_call0_cst_8 : Ref sig .tc := ⟨.hbm, 45, rfl⟩
abbrev main_call0_call1_v0 : Ref sig .tc := ⟨.hbm, 46, rfl⟩
abbrev main_call0_call1_v1 : Ref sig .tc := ⟨.hbm, 47, rfl⟩
abbrev main_call0_v30 : Ref sig .tc := ⟨.hbm, 48, rfl⟩
abbrev main_call0_cst_9 : Ref sig .tc := ⟨.hbm, 49, rfl⟩
abbrev main_call0_v31 : Ref sig .tc := ⟨.hbm, 50, rfl⟩
abbrev main_call0_v32 : Ref sig .tc := ⟨.hbm, 51, rfl⟩
abbrev main_call0_v33 : Ref sig .tc := ⟨.hbm, 52, rfl⟩
abbrev main_call0_v34 : Ref sig .tc := ⟨.hbm, 53, rfl⟩
abbrev main_call0_v35 : Ref sig .tc := ⟨.hbm, 54, rfl⟩
abbrev main_call0_v36 : Ref sig .tc := ⟨.hbm, 55, rfl⟩
abbrev main_call0_v37 : Ref sig .tc := ⟨.hbm, 56, rfl⟩
abbrev main_call0_cst_10 : Ref sig .tc := ⟨.hbm, 57, rfl⟩
abbrev main_call0_v38 : Ref sig .tc := ⟨.hbm, 58, rfl⟩
abbrev main_call0_v39 : Ref sig .tc := ⟨.hbm, 59, rfl⟩
abbrev main_call0_c_11 : Ref sig .tc := ⟨.hbm, 60, rfl⟩
abbrev main_call0_v40 : Ref sig .tc := ⟨.hbm, 61, rfl⟩
abbrev main_call0_c_12 : Ref sig .tc := ⟨.hbm, 62, rfl⟩
abbrev main_call0_v41 : Ref sig .tc := ⟨.hbm, 63, rfl⟩
abbrev main_call0_v42 : Ref sig .tc := ⟨.hbm, 64, rfl⟩
abbrev main_call0_v43 : Ref sig .tc := ⟨.hbm, 65, rfl⟩
abbrev main_call0_v44 : Ref sig .tc := ⟨.hbm, 66, rfl⟩
abbrev main_call0_v45 : Ref sig .tc := ⟨.hbm, 67, rfl⟩
abbrev main_call0_v46 : Ref sig .tc := ⟨.hbm, 68, rfl⟩
abbrev main_call0_v47 : Ref sig .tc := ⟨.hbm, 69, rfl⟩
abbrev main_call0_v48 : Ref sig .tc := ⟨.hbm, 70, rfl⟩
abbrev main_call0_v49 : Ref sig .tc := ⟨.hbm, 71, rfl⟩
abbrev main_call0_v50 : Ref sig .tc := ⟨.hbm, 72, rfl⟩
abbrev main_call0_cst_13 : Ref sig .tc := ⟨.hbm, 73, rfl⟩
abbrev main_call0_v51 : Ref sig .tc := ⟨.hbm, 74, rfl⟩
abbrev main_call0_v52 : Ref sig .tc := ⟨.hbm, 75, rfl⟩
abbrev main_call0_c_14 : Ref sig .tc := ⟨.hbm, 76, rfl⟩
abbrev main_call0_v53 : Ref sig .tc := ⟨.hbm, 77, rfl⟩
abbrev main_call0_c_15 : Ref sig .tc := ⟨.hbm, 78, rfl⟩
abbrev main_call0_v54 : Ref sig .tc := ⟨.hbm, 79, rfl⟩
abbrev main_call0_v55 : Ref sig .tc := ⟨.hbm, 80, rfl⟩
abbrev main_call0_v56 : Ref sig .tc := ⟨.hbm, 81, rfl⟩
abbrev main_call0_v57 : Ref sig .tc := ⟨.hbm, 82, rfl⟩
abbrev main_call0_v58 : Ref sig .tc := ⟨.hbm, 83, rfl⟩
abbrev main_call0_v59 : Ref sig .tc := ⟨.hbm, 84, rfl⟩
abbrev main_call0_c_16 : Ref sig .tc := ⟨.hbm, 85, rfl⟩
abbrev main_call0_v60 : Ref sig .tc := ⟨.hbm, 86, rfl⟩
abbrev main_call0_v61 : Ref sig .tc := ⟨.hbm, 87, rfl⟩
abbrev main_call0_v62 : Ref sig .tc := ⟨.hbm, 88, rfl⟩
abbrev main_call0_v63 : Ref sig .tc := ⟨.hbm, 89, rfl⟩
abbrev main_call0_v64 : Ref sig .tc := ⟨.hbm, 90, rfl⟩
abbrev main_call0_v65 : Ref sig .tc := ⟨.hbm, 91, rfl⟩
abbrev main_call0_v66 : Ref sig .tc := ⟨.hbm, 92, rfl⟩
abbrev main_call0_v67 : Ref sig .tc := ⟨.hbm, 93, rfl⟩
abbrev main_call0_c_17 : Ref sig .tc := ⟨.hbm, 94, rfl⟩
abbrev main_call0_v68 : Ref sig .tc := ⟨.hbm, 95, rfl⟩
abbrev main_call0_v69 : Ref sig .tc := ⟨.hbm, 96, rfl⟩
abbrev main_call0_c_18 : Ref sig .tc := ⟨.hbm, 97, rfl⟩
abbrev main_call0_v70 : Ref sig .tc := ⟨.hbm, 98, rfl⟩
abbrev main_call0_v71 : Ref sig .tc := ⟨.hbm, 99, rfl⟩
abbrev main_call0_c_19 : Ref sig .tc := ⟨.hbm, 100, rfl⟩
abbrev main_call0_v72 : Ref sig .tc := ⟨.hbm, 101, rfl⟩
abbrev main_call0_v73 : Ref sig .tc := ⟨.hbm, 102, rfl⟩
abbrev main_call0_v74 : Ref sig .tc := ⟨.hbm, 103, rfl⟩
abbrev main_call0_c_20 : Ref sig .tc := ⟨.hbm, 104, rfl⟩
abbrev main_call0_v75 : Ref sig .tc := ⟨.hbm, 105, rfl⟩
abbrev main_call0_v76 : Ref sig .tc := ⟨.hbm, 106, rfl⟩
abbrev main_call0_v77 : Ref sig .tc := ⟨.hbm, 107, rfl⟩
abbrev main_call0_v78 : Ref sig .tc := ⟨.hbm, 108, rfl⟩
abbrev main_call0_v79 : Ref sig .tc := ⟨.hbm, 109, rfl⟩
abbrev main_call0_c_21 : Ref sig .tc := ⟨.hbm, 110, rfl⟩
abbrev main_call0_c_22 : Ref sig .tc := ⟨.hbm, 111, rfl⟩
abbrev main_call0_call2_v0 : Ref sig .tc := ⟨.hbm, 112, rfl⟩
abbrev main_call0_call2_v1 : Ref sig .tc := ⟨.hbm, 113, rfl⟩
abbrev main_call0_call2_v2 : Ref sig .tc := ⟨.hbm, 114, rfl⟩
abbrev main_call0_call2_v3 : Ref sig .tc := ⟨.hbm, 115, rfl⟩
abbrev main_call0_call2_v4 : Ref sig .tc := ⟨.hbm, 116, rfl⟩
abbrev main_call0_v80 : Ref sig .tc := ⟨.hbm, 117, rfl⟩
abbrev main_call0_v81 : Ref sig .tc := ⟨.hbm, 118, rfl⟩
abbrev main_call0_c_23 : Ref sig .tc := ⟨.hbm, 119, rfl⟩
abbrev main_call0_v82 : Ref sig .tc := ⟨.hbm, 120, rfl⟩
abbrev main_call0_v83 : Ref sig .tc := ⟨.hbm, 121, rfl⟩
abbrev main_call0_c_24 : Ref sig .tc := ⟨.hbm, 122, rfl⟩
abbrev main_call0_call3_v0 : Ref sig .tc := ⟨.hbm, 123, rfl⟩
abbrev main_call0_call3_c : Ref sig .tc := ⟨.hbm, 124, rfl⟩
abbrev main_call0_call3_v1 : Ref sig .tc := ⟨.hbm, 125, rfl⟩
abbrev main_call0_call3_c_0 : Ref sig .tc := ⟨.hbm, 126, rfl⟩
abbrev main_call0_call3_v2 : Ref sig .tc := ⟨.hbm, 127, rfl⟩
abbrev main_call0_call3_v3 : Ref sig .tc := ⟨.hbm, 128, rfl⟩
abbrev main_call0_call3_v4 : Ref sig .tc := ⟨.hbm, 129, rfl⟩
abbrev main_call0_call3_c_1 : Ref sig .tc := ⟨.hbm, 130, rfl⟩
abbrev main_call0_call3_v5 : Ref sig .tc := ⟨.hbm, 131, rfl⟩
abbrev main_call0_call3_v6 : Ref sig .tc := ⟨.hbm, 132, rfl⟩
abbrev main_call0_call3_c_2 : Ref sig .tc := ⟨.hbm, 133, rfl⟩
abbrev main_call0_call3_v7 : Ref sig .tc := ⟨.hbm, 134, rfl⟩
abbrev main_call0_call3_v8 : Ref sig .tc := ⟨.hbm, 135, rfl⟩
abbrev main_call0_call3_c_3 : Ref sig .tc := ⟨.hbm, 136, rfl⟩
abbrev main_call0_call3_v9 : Ref sig .tc := ⟨.hbm, 137, rfl⟩
abbrev main_call0_call3_v10 : Ref sig .tc := ⟨.hbm, 138, rfl⟩
abbrev main_call0_call3_v11 : Ref sig .tc := ⟨.hbm, 139, rfl⟩
abbrev main_call0_call3_v12 : Ref sig .tc := ⟨.hbm, 140, rfl⟩
abbrev main_call0_call3_v13 : Ref sig .tc := ⟨.hbm, 141, rfl⟩
abbrev main_call0_call3_v14 : Ref sig .tc := ⟨.hbm, 142, rfl⟩
abbrev main_call0_v84 : Ref sig .tc := ⟨.hbm, 143, rfl⟩
abbrev main_call0_v85 : Ref sig .tc := ⟨.hbm, 144, rfl⟩
abbrev main_call0_v86 : Ref sig .tc := ⟨.hbm, 145, rfl⟩
abbrev main_call0_v87 : Ref sig .tc := ⟨.hbm, 146, rfl⟩
abbrev main_call0_c_25 : Ref sig .tc := ⟨.hbm, 147, rfl⟩
abbrev main_call0_v88 : Ref sig .tc := ⟨.hbm, 148, rfl⟩
abbrev main_call0_v89 : Ref sig .tc := ⟨.hbm, 149, rfl⟩
abbrev main_call0_c_26 : Ref sig .tc := ⟨.hbm, 150, rfl⟩
abbrev main_call0_v90 : Ref sig .tc := ⟨.hbm, 151, rfl⟩
abbrev main_call0_v91 : Ref sig .tc := ⟨.hbm, 152, rfl⟩
abbrev main_call0_v92 : Ref sig .tc := ⟨.hbm, 153, rfl⟩
abbrev main_call0_c_27 : Ref sig .tc := ⟨.hbm, 154, rfl⟩
abbrev main_call0_v93 : Ref sig .tc := ⟨.hbm, 155, rfl⟩
abbrev main_call0_v94 : Ref sig .tc := ⟨.hbm, 156, rfl⟩
abbrev main_call0_c_28 : Ref sig .tc := ⟨.hbm, 157, rfl⟩
abbrev main_call0_v95 : Ref sig .tc := ⟨.hbm, 158, rfl⟩
abbrev main_call0_v96 : Ref sig .tc := ⟨.hbm, 159, rfl⟩
abbrev main_call0_v97 : Ref sig .tc := ⟨.hbm, 160, rfl⟩
abbrev main_call0_c_29 : Ref sig .tc := ⟨.hbm, 161, rfl⟩
abbrev main_call0_v98 : Ref sig .tc := ⟨.hbm, 162, rfl⟩
abbrev main_call0_v99 : Ref sig .tc := ⟨.hbm, 163, rfl⟩
abbrev main_call0_c_30 : Ref sig .tc := ⟨.hbm, 164, rfl⟩
abbrev main_call0_v100 : Ref sig .tc := ⟨.hbm, 165, rfl⟩
abbrev main_call0_v101 : Ref sig .tc := ⟨.hbm, 166, rfl⟩
abbrev main_call0_v102 : Ref sig .tc := ⟨.hbm, 167, rfl⟩
abbrev main_call0_v103 : Ref sig .tc := ⟨.hbm, 168, rfl⟩
abbrev main_call0_v104 : Ref sig .tc := ⟨.hbm, 169, rfl⟩
abbrev main_call0_v105 : Ref sig .tc := ⟨.hbm, 170, rfl⟩
abbrev main_call0_v106 : Ref sig .tc := ⟨.hbm, 171, rfl⟩
abbrev main_call0_v107 : Ref sig .tc := ⟨.hbm, 172, rfl⟩
abbrev main_call0_v108 : Ref sig .tc := ⟨.hbm, 173, rfl⟩
abbrev main_call0_v109 : Ref sig .tc := ⟨.hbm, 174, rfl⟩
abbrev main_call0_v110 : Ref sig .tc := ⟨.hbm, 175, rfl⟩
abbrev main_call0_v111 : Ref sig .tc := ⟨.hbm, 176, rfl⟩
abbrev main_call0_v112 : Ref sig .tc := ⟨.hbm, 177, rfl⟩
abbrev main_call0_v113 : Ref sig .tc := ⟨.hbm, 178, rfl⟩
abbrev main_call0_v114 : Ref sig .tc := ⟨.hbm, 179, rfl⟩
abbrev main_call0_v115 : Ref sig .tc := ⟨.hbm, 180, rfl⟩
abbrev main_call0_v116 : Ref sig .tc := ⟨.hbm, 181, rfl⟩
abbrev main_call0_v117 : Ref sig .tc := ⟨.hbm, 182, rfl⟩
abbrev main_call0_cst_31 : Ref sig .tc := ⟨.hbm, 183, rfl⟩
abbrev main_call0_v118 : Ref sig .tc := ⟨.hbm, 184, rfl⟩
abbrev main_call0_v119 : Ref sig .tc := ⟨.hbm, 185, rfl⟩
abbrev main_call0_cst_32 : Ref sig .tc := ⟨.hbm, 186, rfl⟩
abbrev main_call0_v120 : Ref sig .tc := ⟨.hbm, 187, rfl⟩
abbrev main_call0_cst_33 : Ref sig .tc := ⟨.hbm, 188, rfl⟩
abbrev main_call0_v121 : Ref sig .tc := ⟨.hbm, 189, rfl⟩
abbrev main_call0_v122 : Ref sig .tc := ⟨.hbm, 190, rfl⟩
abbrev main_call0_v123 : Ref sig .tc := ⟨.hbm, 191, rfl⟩
abbrev main_call0_v124 : Ref sig .tc := ⟨.hbm, 192, rfl⟩
abbrev main_call0_v125 : Ref sig .tc := ⟨.hbm, 193, rfl⟩
abbrev main_call0_v126 : Ref sig .tc := ⟨.hbm, 194, rfl⟩
abbrev main_call0_v127 : Ref sig .tc := ⟨.hbm, 195, rfl⟩
abbrev main_call0_v128 : Ref sig .tc := ⟨.hbm, 196, rfl⟩
abbrev main_call0_cst_34 : Ref sig .tc := ⟨.hbm, 197, rfl⟩
abbrev main_call0_v129 : Ref sig .tc := ⟨.hbm, 198, rfl⟩
abbrev main_call0_v130 : Ref sig .tc := ⟨.hbm, 199, rfl⟩
abbrev main_call0_v131 : Ref sig .tc := ⟨.hbm, 200, rfl⟩
abbrev main_call0_v132 : Ref sig .tc := ⟨.hbm, 201, rfl⟩
abbrev main_call0_v133 : Ref sig .tc := ⟨.hbm, 202, rfl⟩
abbrev main_call0_v134 : Ref sig .tc := ⟨.hbm, 203, rfl⟩
abbrev main_call0_v135 : Ref sig .tc := ⟨.hbm, 204, rfl⟩
abbrev main_call0_v136 : Ref sig .tc := ⟨.hbm, 205, rfl⟩
abbrev main_call0_cst_35 : Ref sig .tc := ⟨.hbm, 206, rfl⟩
abbrev main_call0_v137 : Ref sig .tc := ⟨.hbm, 207, rfl⟩
abbrev main_call0_v138 : Ref sig .tc := ⟨.hbm, 208, rfl⟩
abbrev main_call0_v139 : Ref sig .tc := ⟨.hbm, 209, rfl⟩
abbrev main_call0_v140 : Ref sig .tc := ⟨.hbm, 210, rfl⟩
abbrev main_call0_v141 : Ref sig .tc := ⟨.hbm, 211, rfl⟩
abbrev main_call0_v142 : Ref sig .tc := ⟨.hbm, 212, rfl⟩
abbrev main_call0_v143 : Ref sig .tc := ⟨.hbm, 213, rfl⟩
abbrev main_call0_cst_36 : Ref sig .tc := ⟨.hbm, 214, rfl⟩
abbrev main_call0_v144 : Ref sig .tc := ⟨.hbm, 215, rfl⟩
abbrev main_call0_v145 : Ref sig .tc := ⟨.hbm, 216, rfl⟩
abbrev main_call0_v146 : Ref sig .tc := ⟨.hbm, 217, rfl⟩
abbrev main_call0_v147 : Ref sig .tc := ⟨.hbm, 218, rfl⟩
abbrev main_call0_v148 : Ref sig .tc := ⟨.hbm, 219, rfl⟩
abbrev main_call0_c_37 : Ref sig .tc := ⟨.hbm, 220, rfl⟩
abbrev main_call0_call4_v0 : Ref sig .tc := ⟨.hbm, 221, rfl⟩
abbrev main_call0_v149 : Ref sig .tc := ⟨.hbm, 222, rfl⟩
abbrev main_call0_v150 : Ref sig .tc := ⟨.hbm, 223, rfl⟩
abbrev main_call0_v151 : Ref sig .tc := ⟨.hbm, 224, rfl⟩
abbrev main_call0_v152 : Ref sig .tc := ⟨.hbm, 225, rfl⟩
abbrev main_call0_v153 : Ref sig .tc := ⟨.hbm, 226, rfl⟩
abbrev main_call0_v154 : Ref sig .tc := ⟨.hbm, 227, rfl⟩
abbrev main_call0_v155 : Ref sig .tc := ⟨.hbm, 228, rfl⟩
abbrev main_call0_v156 : Ref sig .tc := ⟨.hbm, 229, rfl⟩
abbrev main_call0_v157 : Ref sig .tc := ⟨.hbm, 230, rfl⟩
abbrev main_call0_v158 : Ref sig .tc := ⟨.hbm, 231, rfl⟩
abbrev main_v0 : Ref sig .tc := ⟨.hbm, 232, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S25x256x180 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S180x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S25x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![96], ![false]⟩

def k1_off1 (i : grid1.Coords) : Fin 3 → Nat :=
  let arg0 : BitVec 32 := BitVec.ofNat 32 (i 0).val
  let v3 : Index := Scalar.indexCast arg0
  let c0 : Index := 0#32
  let c0_1 : Index := 0#32
  ![v3.toNat, 0, 0]
def k1_off2 (i : grid1.Coords) (c0_i32_2 : BitVec 32) : Fin 3 → Nat :=
  let arg0 : BitVec 32 := BitVec.ofNat 32 (i 0).val
  let v6 : BitVec 32 := Scalar.addi arg0 c0_i32_2
  let v7 : Index := Scalar.indexCast v6
  let c0_3 : Index := 0#32
  let c0_4 : Index := 0#32
  ![v7.toNat, 0, 0]
def k1_off3 (i : grid1.Coords) (c0_i32_13 : BitVec 32) : Fin 3 → Nat :=
  let arg0 : BitVec 32 := BitVec.ofNat 32 (i 0).val
  let v26 : BitVec 32 := Scalar.addi arg0 c0_i32_13
  let v27 : Index := Scalar.indexCast v26
  let c0_14 : Index := 0#32
  let c128 : Index := 128#32
  ![v27.toNat, 0, 128]
def k1_off4 (i : grid1.Coords) (c0_i32_49 : BitVec 32) : Fin 3 → Nat :=
  let arg0 : BitVec 32 := BitVec.ofNat 32 (i 0).val
  let v346 : BitVec 32 := Scalar.addi arg0 c0_i32_49
  let v347 : Index := Scalar.indexCast v346
  let c32 : Index := 32#32
  let c0_50 : Index := 0#32
  ![v347.toNat, 32, 0]
def k1_off5 (i : grid1.Coords) (c0_i32_63 : BitVec 32) : Fin 3 → Nat :=
  let arg0 : BitVec 32 := BitVec.ofNat 32 (i 0).val
  let v366 : BitVec 32 := Scalar.addi arg0 c0_i32_63
  let v367 : Index := Scalar.indexCast v366
  let c32_64 : Index := 32#32
  let c128_65 : Index := 128#32
  ![v367.toNat, 32, 128]
def k1_off6 (i : grid1.Coords) (c0_i32_100 : BitVec 32) : Fin 3 → Nat :=
  let arg0 : BitVec 32 := BitVec.ofNat 32 (i 0).val
  let v686 : BitVec 32 := Scalar.addi arg0 c0_i32_100
  let v687 : Index := Scalar.indexCast v686
  let c64 : Index := 64#32
  let c0_101 : Index := 0#32
  ![v687.toNat, 64, 0]
def k1_off7 (i : grid1.Coords) (c0_i32_114 : BitVec 32) : Fin 3 → Nat :=
  let arg0 : BitVec 32 := BitVec.ofNat 32 (i 0).val
  let v706 : BitVec 32 := Scalar.addi arg0 c0_i32_114
  let v707 : Index := Scalar.indexCast v706
  let c64_115 : Index := 64#32
  let c128_116 : Index := 128#32
  ![v707.toNat, 64, 128]
def k1_off8 (i : grid1.Coords) (c0_i32_151 : BitVec 32) : Fin 3 → Nat :=
  let arg0 : BitVec 32 := BitVec.ofNat 32 (i 0).val
  let v1026 : BitVec 32 := Scalar.addi arg0 c0_i32_151
  let v1027 : Index := Scalar.indexCast v1026
  let c96 : Index := 96#32
  let c0_152 : Index := 0#32
  ![v1027.toNat, 96, 0]
def k1_off9 (i : grid1.Coords) (c0_i32_165 : BitVec 32) : Fin 3 → Nat :=
  let arg0 : BitVec 32 := BitVec.ofNat 32 (i 0).val
  let v1046 : BitVec 32 := Scalar.addi arg0 c0_i32_165
  let v1047 : Index := Scalar.indexCast v1046
  let c96_166 : Index := 96#32
  let c128_167 : Index := 128#32
  ![v1047.toNat, 96, 128]
def k1_off10 (i : grid1.Coords) (c0_i32_202 : BitVec 32) : Fin 3 → Nat :=
  let arg0 : BitVec 32 := BitVec.ofNat 32 (i 0).val
  let v1366 : BitVec 32 := Scalar.addi arg0 c0_i32_202
  let v1367 : Index := Scalar.indexCast v1366
  let c128_203 : Index := 128#32
  let c0_204 : Index := 0#32
  ![v1367.toNat, 128, 0]
def k1_off11 (i : grid1.Coords) (c0_i32_217 : BitVec 32) : Fin 3 → Nat :=
  let arg0 : BitVec 32 := BitVec.ofNat 32 (i 0).val
  let v1386 : BitVec 32 := Scalar.addi arg0 c0_i32_217
  let v1387 : Index := Scalar.indexCast v1386
  let c128_218 : Index := 128#32
  let c128_219 : Index := 128#32
  ![v1387.toNat, 128, 128]
def k1_off12 (i : grid1.Coords) (c0_i32_255 : BitVec 32) : Fin 3 → Nat :=
  let arg0 : BitVec 32 := BitVec.ofNat 32 (i 0).val
  let v1706 : BitVec 32 := Scalar.addi arg0 c0_i32_255
  let v1707 : Index := Scalar.indexCast v1706
  let c160_256 : Index := 160#32
  let c0_257 : Index := 0#32
  ![v1707.toNat, 160, 0]
def k1_off13 (i : grid1.Coords) (c0_i32_270 : BitVec 32) : Fin 3 → Nat :=
  let arg0 : BitVec 32 := BitVec.ofNat 32 (i 0).val
  let v1726 : BitVec 32 := Scalar.addi arg0 c0_i32_270
  let v1727 : Index := Scalar.indexCast v1726
  let c160_271 : Index := 160#32
  let c128_272 : Index := 128#32
  ![v1727.toNat, 160, 128]
def k1_off14 (i : grid1.Coords) (c0_i32_309 : BitVec 32) : Fin 3 → Nat :=
  let arg0 : BitVec 32 := BitVec.ofNat 32 (i 0).val
  let v2046 : BitVec 32 := Scalar.addi arg0 c0_i32_309
  let v2047 : Index := Scalar.indexCast v2046
  let c192_310 : Index := 192#32
  let c0_311 : Index := 0#32
  ![v2047.toNat, 192, 0]
def k1_off15 (i : grid1.Coords) (c0_i32_324 : BitVec 32) : Fin 3 → Nat :=
  let arg0 : BitVec 32 := BitVec.ofNat 32 (i 0).val
  let v2066 : BitVec 32 := Scalar.addi arg0 c0_i32_324
  let v2067 : Index := Scalar.indexCast v2066
  let c192_325 : Index := 192#32
  let c128_326 : Index := 128#32
  ![v2067.toNat, 192, 128]
def k1_off16 (i : grid1.Coords) (c0_i32_363 : BitVec 32) : Fin 3 → Nat :=
  let arg0 : BitVec 32 := BitVec.ofNat 32 (i 0).val
  let v2386 : BitVec 32 := Scalar.addi arg0 c0_i32_363
  let v2387 : Index := Scalar.indexCast v2386
  let c224_364 : Index := 224#32
  let c0_365 : Index := 0#32
  ![v2387.toNat, 224, 0]
def k1_off17 (i : grid1.Coords) (c0_i32_378 : BitVec 32) : Fin 3 → Nat :=
  let arg0 : BitVec 32 := BitVec.ofNat 32 (i 0).val
  let v2406 : BitVec 32 := Scalar.addi arg0 c0_i32_378
  let v2407 : Index := Scalar.indexCast v2406
  let c224_379 : Index := 224#32
  let c128_380 : Index := 128#32
  ![v2407.toNat, 224, 128]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage1_0 : Fin 1 → Memref sig .tc .vmem S100x256x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S96x30x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x384 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x192 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2x1x128x192 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S2x128x91x180 : Shape := ⟨4, ![2, 128, 91, 180]⟩
abbrev S128x128x3 : Shape := ⟨3, ![128, 128, 3]⟩
abbrev S128 : Shape := ⟨1, ![128]⟩
abbrev S3x91x91x180 : Shape := ⟨4, ![3, 91, 91, 180]⟩
abbrev S180 : Shape := ⟨1, ![180]⟩
abbrev S180x1 : Shape := ⟨2, ![180, 1]⟩
abbrev S1x180 : Shape := ⟨2, ![1, 180]⟩
abbrev S180x180 : Shape := ⟨2, ![180, 180]⟩
abbrev S_ : Shape := ⟨0, ![]⟩
abbrev S180x180x1 : Shape := ⟨3, ![180, 180, 1]⟩
abbrev S2x128x91x180x180 : Shape := ⟨5, ![2, 128, 91, 180, 180]⟩
abbrev S2x128x180x3x91 : Shape := ⟨5, ![2, 128, 180, 3, 91]⟩
abbrev S2x128x3x91x180 : Shape := ⟨5, ![2, 128, 3, 91, 180]⟩
abbrev S2x91x180x128 : Shape := ⟨4, ![2, 91, 180, 128]⟩
abbrev S1x128x1x1 : Shape := ⟨4, ![1, 128, 1, 1]⟩

abbrev nBuf : Space → Nat
  | .hbm => 49
  | .vmem => 0
  | .smem => 0
  | _ => 0

abbrev bufTy : (tb : Table) → Fin (tcTables nBuf tb) → BufTy
  | .hbm, ⟨0, _⟩ => ⟨S2x128x91x180, .f32⟩
  | .hbm, ⟨1, _⟩ => ⟨S128x128x3, .f32⟩
  | .hbm, ⟨2, _⟩ => ⟨S128, .f32⟩
  | .hbm, ⟨3, _⟩ => ⟨S3x91x91x180, .f32⟩
  | .hbm, ⟨4, _⟩ => ⟨S180, .i32⟩
  | .hbm, ⟨5, _⟩ => ⟨S180x1, .i32⟩
  | .hbm, ⟨6, _⟩ => ⟨S180, .i32⟩
  | .hbm, ⟨7, _⟩ => ⟨S1x180, .i32⟩
  | .hbm, ⟨8, _⟩ => ⟨S180x180, .i32⟩
  | .hbm, ⟨9, _⟩ => ⟨S180x180, .i32⟩
  | .hbm, ⟨10, _⟩ => ⟨S180x180, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S180x180, .i32⟩
  | .hbm, ⟨18, _⟩ => ⟨S180x180, .i32⟩
  | .hbm, ⟨19, _⟩ => ⟨S_, .i32⟩
  | .hbm, ⟨20, _⟩ => ⟨S180x180, .i32⟩
  | .hbm, ⟨21, _⟩ => ⟨S180x180, .i1⟩
  | .hbm, ⟨22, _⟩ => ⟨S_, .i32⟩
  | .hbm, ⟨23, _⟩ => ⟨S180x180, .i32⟩
  | .hbm, ⟨24, _⟩ => ⟨S180x180, .i1⟩
  | .hbm, ⟨25, _⟩ => ⟨S_, .i32⟩
  | .hbm, ⟨26, _⟩ => ⟨S_, .i1⟩
  | .hbm, ⟨27, _⟩ => ⟨S180x180, .i1⟩
  | .hbm, ⟨28, _⟩ => ⟨S180x180, .i1⟩
  | .hbm, ⟨29, _⟩ => ⟨S180x180, .i1⟩
  | .hbm, ⟨30, _⟩ => ⟨S180x180, .i32⟩
  | .hbm, ⟨31, _⟩ => ⟨S180x180, .i32⟩
  | .hbm, ⟨32, _⟩ => ⟨S180x180, .i32⟩
  | .hbm, ⟨33, _⟩ => ⟨S_, .i32⟩
  | .hbm, ⟨34, _⟩ => ⟨S180x180, .i32⟩
  | .hbm, ⟨35, _⟩ => ⟨S180x180, .i1⟩
  | .hbm, ⟨36, _⟩ => ⟨S_, .i32⟩
  | .hbm, ⟨37, _⟩ => ⟨S180x180, .i32⟩
  | .hbm, ⟨38, _⟩ => ⟨S180x180, .i32⟩
  | .hbm, ⟨39, _⟩ => ⟨S180x180, .i32⟩
  | .hbm, ⟨40, _⟩ => ⟨S180x180x1, .i32⟩
  | .hbm, ⟨41, _⟩ => ⟨S2x128x91x180x180, .f32⟩
  | .hbm, ⟨42, _⟩ => ⟨S2x128x180x3x91, .f32⟩
  | .hbm, ⟨43, _⟩ => ⟨S2x128x3x91x180, .f32⟩
  | .hbm, ⟨44, _⟩ => ⟨S2x91x180x128, .f32⟩
  | .hbm, ⟨45, _⟩ => ⟨S2x128x91x180, .f32⟩
  | .hbm, ⟨46, _⟩ => ⟨S1x128x1x1, .f32⟩
  | .hbm, ⟨47, _⟩ => ⟨S2x128x91x180, .f32⟩
  | .hbm, ⟨48, _⟩ => ⟨S2x128x91x180, .f32⟩
  | _, _ => ⟨S2x128x91x180, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v7 : Ref sig .tc := ⟨.hbm, 32, rfl⟩
abbrev main_c_0 : Ref sig .tc := ⟨.hbm, 33, rfl⟩
abbrev main_v8 : Ref sig .tc := ⟨.hbm, 34, rfl⟩
abbrev main_v9 : Ref sig .tc := ⟨.hbm, 35, rfl⟩
abbrev main_c_1 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩

abbrev nD : Nat := 1
abbrev τ : Topo := Topo.v7x

variable {F : FTy → Type} [FloatOps F]
-- ==== Proof.Circle.lean ====
/-
The mathematics of the transform, over the real numbers: the half spectrum of a signal on 180 points, weighted once at
its two ends and twice between, adds up to a unit impulse; so a stencil applied to a spectrum and transformed back is a
circular correlation.
-/
module

public import Mathlib.Analysis.SpecialFunctions.Trigonometric.Basic
public import Mathlib.Analysis.SpecialFunctions.Complex.Log
public import Mathlib.Algebra.Field.GeomSum
public import Mathlib.Algebra.BigOperators.Fin
public import Mathlib.Algebra.BigOperators.Ring.Finset
public import Mathlib.Algebra.BigOperators.Intervals
public import Mathlib.Tactic.Ring
public import Mathlib.Tactic.NormNum

@[expose] public section

noncomputable section

namespace Cert.Circle

open Finset

/-- The angle of frequency `f` at position `n` on the circle of 180 points. -/
def ang (f n : ℝ) : ℝ := 2 * Real.pi * f * n / 180

/-- The weight of a frequency in the half spectrum: its two ends count once, those between twice. -/
def alpha (f : ℕ) : ℝ := if f = 0 ∨ f = 90 then 1 else 2

/-- The cosines of a frequency `n` over the whole circle add up to 180 when `n` is a multiple of 180, else to nothing. -/
theorem sum_cos (n : ℤ) : ∑ f ∈ range 180, Real.cos (ang f n) = if (180 : ℤ) ∣ n then 180 else 0 := by
  have hc : ∀ f : ℕ, Real.cos (ang f n) = (Complex.exp (2 * Real.pi * Complex.I * (n / 180)) ^ f).re := by
    intro f
    rw [← Complex.exp_nat_mul, ← Complex.exp_ofReal_mul_I_re]
    congr 2
    simp only [ang]
    push_cast
    ring
  simp only [hc]
  rw [← Complex.re_sum]
  split_ifs with h
  · obtain ⟨k, rfl⟩ := h
    have : Complex.exp (2 * Real.pi * Complex.I * (((180 * k : ℤ) : ℂ) / 180)) = 1 := by
      rw [Complex.exp_eq_one_iff]; exact ⟨k, by push_cast; ring⟩
    simp only [this, one_pow]
    simp
  · have hne : Complex.exp (2 * Real.pi * Complex.I * ((n : ℂ) / 180)) ≠ 1 := by
      rw [Ne, Complex.exp_eq_one_iff]
      rintro ⟨k, hk⟩
      apply h
      have h2 : (2 * Real.pi * Complex.I : ℂ) ≠ 0 := Complex.two_pi_I_ne_zero
      have h3 : (n : ℂ) / 180 = k := mul_left_cancel₀ h2 (by rw [hk]; ring)
      have h4 : (n : ℂ) = ((180 * k : ℤ) : ℂ) := by
        push_cast; rw [← h3]; ring
      exact ⟨k, by exact_mod_cast h4⟩
    have hpow : Complex.exp (2 * Real.pi * Complex.I * ((n : ℂ) / 180)) ^ 180 = 1 := by
      rw [← Complex.exp_nat_mul, Complex.exp_eq_one_iff]; exact ⟨n, by push_cast; ring⟩
    rw [geom_sum_eq hne, hpow]; simp

/-- The cosine of frequency `180 - f` is that of `f`. -/
theorem cos_reflect (n : ℤ) (f : ℕ) (h : f ≤ 180) : Real.cos (ang ((180 - f : ℕ) : ℝ) n) = Real.cos (ang f n) := by
  have : ang ((180 - f : ℕ) : ℝ) n = -ang f n + n * (2 * Real.pi) := by
    simp only [ang]; push_cast [h]; ring
  rw [this, Real.cos_add_int_mul_two_pi, Real.cos_neg]

/-- The half spectrum's weighted cosines add up to a unit impulse. -/
theorem half_sum (n : ℤ) : ∑ f ∈ range 91, alpha f / 180 * Real.cos (ang f n) = if (180 : ℤ) ∣ n then 1 else 0 := by
  have h := sum_cos n
  rw [show 180 = 91 + 89 from rfl, sum_range_add] at h
  have hr : ∑ i ∈ range 89, Real.cos (ang ((91 + i : ℕ) : ℝ) n) = ∑ i ∈ range 89, Real.cos (ang ((i + 1 : ℕ) : ℝ) n) := by
    rw [← sum_range_reflect]
    refine sum_congr rfl fun i hi => ?_
    have hi' := mem_range.mp hi
    rw [show 91 + (89 - 1 - i) = 180 - (i + 1) by omega, cos_reflect n (i + 1) (by omega)]
  have hs : ∑ f ∈ range 91, alpha f / 180 * Real.cos (ang f n)
      = (∑ f ∈ range 91, Real.cos (ang f n) + ∑ i ∈ range 89, Real.cos (ang ((i + 1 : ℕ) : ℝ) n)) / 180 := by
    rw [sum_range_succ _ 90, sum_range_succ' _ 89, sum_range_succ _ 90, sum_range_succ' _ 89]
    have : ∑ k ∈ range 89, alpha (k + 1) / 180 * Real.cos (ang ((k + 1 : ℕ) : ℝ) n)
        = ∑ k ∈ range 89, 2 / 180 * Real.cos (ang ((k + 1 : ℕ) : ℝ) n) := by
      refine sum_congr rfl fun k hk => ?_
      have := mem_range.mp hk
      rw [alpha, if_neg (by omega)]
    rw [this, ← mul_sum]
    simp only [alpha, true_or, or_true, if_true]
    ring
  rw [hs, ← hr, h]
  split_ifs <;> norm_num

/-- One term: what a stencil weight `p` at offset `d - 4` and a signal value `x` at `w` give back at `v`, frequency by frequency. -/
theorem term (v w d : ℕ) (hv : v < 180) (hw : w < 180) (hd : d < 9) :
    ∑ f ∈ range 91, alpha f / 180 * (Real.cos (ang f v)
        * (Real.cos (ang f (d - 4)) * Real.cos (ang f w) + Real.sin (ang f (d - 4)) * Real.sin (ang f w))
        - Real.sin (ang f v)
        * (-(Real.cos (ang f (d - 4)) * Real.sin (ang f w)) + Real.sin (ang f (d - 4)) * Real.cos (ang f w)))
      = if w = (v + d + 176) % 180 then 1 else 0 := by
  have h := half_sum ((v : ℤ) + d - 4 - w)
  have e : ∀ f : ℕ, ang f (((v : ℤ) + d - 4 - w : ℤ) : ℝ) = ang f v + (ang f (d - 4) - ang f w) := by
    intro f; simp only [ang]; push_cast; ring
  simp only [e, Real.cos_add, Real.cos_sub, Real.sin_sub] at h
  have hif : ((180 : ℤ) ∣ (v : ℤ) + d - 4 - w) ↔ w = (v + d + 176) % 180 := by omega
  simp only [hif] at h
  rw [← h]
  refine sum_congr rfl fun f _ => ?_
  ring

/-- Transform, stencil and transform back is a circular correlation: the real and imaginary parts of the stencil's
    product with the spectrum, added over the five rows and weighted back at position `v`, are the stencil applied there. -/
theorem correlate (P : Fin 5 → Fin 9 → ℝ) (X : Fin 5 → Fin 180 → ℝ) (v : Fin 180) :
    ∑ f : Fin 91, ((∑ e, ((∑ d : Fin 9, P e d * Real.cos (ang f.val (d.val - 4))) * (∑ w : Fin 180, X e w * Real.cos (ang f.val w.val))
          - (∑ d : Fin 9, P e d * Real.sin (ang f.val (d.val - 4))) * (∑ w : Fin 180, X e w * -Real.sin (ang f.val w.val))))
          * (alpha f.val * Real.cos (ang f.val v.val) / 180)
        + (∑ e, ((∑ d : Fin 9, P e d * Real.cos (ang f.val (d.val - 4))) * (∑ w : Fin 180, X e w * -Real.sin (ang f.val w.val))
          + (∑ d : Fin 9, P e d * Real.sin (ang f.val (d.val - 4))) * (∑ w : Fin 180, X e w * Real.cos (ang f.val w.val))))
          * (-alpha f.val * Real.sin (ang f.val v.val) / 180))
      = ∑ e, ∑ d : Fin 9, P e d * X e ⟨(v.val + d.val + 176) % 180, Nat.mod_lt _ (by norm_num)⟩ := by
  have key : ∀ (e : Fin 5) (d : Fin 9), P e d * X e ⟨(v.val + d.val + 176) % 180, Nat.mod_lt _ (by norm_num)⟩
      = ∑ w : Fin 180, ∑ f : Fin 91, P e d * X e w * (alpha f.val / 180 * (Real.cos (ang f.val v.val)
        * (Real.cos (ang f.val (d.val - 4)) * Real.cos (ang f.val w.val) + Real.sin (ang f.val (d.val - 4)) * Real.sin (ang f.val w.val))
        - Real.sin (ang f.val v.val)
        * (-(Real.cos (ang f.val (d.val - 4)) * Real.sin (ang f.val w.val)) + Real.sin (ang f.val (d.val - 4)) * Real.cos (ang f.val w.val)))) := by
    intro e d
    have ht : ∀ w : Fin 180, ∑ f : Fin 91, P e d * X e w * (alpha f.val / 180 * (Real.cos (ang f.val v.val)
        * (Real.cos (ang f.val (d.val - 4)) * Real.cos (ang f.val w.val) + Real.sin (ang f.val (d.val - 4)) * Real.sin (ang f.val w.val))
        - Real.sin (ang f.val v.val)
        * (-(Real.cos (ang f.val (d.val - 4)) * Real.sin (ang f.val w.val)) + Real.sin (ang f.val (d.val - 4)) * Real.cos (ang f.val w.val))))
        = if w = ⟨(v.val + d.val + 176) % 180, Nat.mod_lt _ (by norm_num)⟩ then P e d * X e w else 0 := by
      intro w
      rw [← mul_sum, Finset.sum_range (n := 91) (fun f => alpha f / 180 * (Real.cos (ang f v.val)
        * (Real.cos (ang f (d.val - 4)) * Real.cos (ang f w.val) + Real.sin (ang f (d.val - 4)) * Real.sin (ang f w.val))
        - Real.sin (ang f v.val)
        * (-(Real.cos (ang f (d.val - 4)) * Real.sin (ang f w.val)) + Real.sin (ang f (d.val - 4)) * Real.cos (ang f w.val)))) |>.symm,
        term v.val w.val d.val v.isLt w.isLt d.isLt]
      simp only [Fin.ext_iff]
      split_ifs <;> simp
    rw [sum_congr rfl fun w _ => ht w]
    simp
  simp only [key]
  have hx : ∀ f : Fin 91, ∀ e : Fin 5, ∀ (a b : Fin 9 → ℝ) (c s : Fin 180 → ℝ) (A B : ℝ),
      ((∑ d, P e d * a d) * (∑ w, X e w * c w) - (∑ d, P e d * b d) * (∑ w, X e w * -s w)) * A
      + ((∑ d, P e d * a d) * (∑ w, X e w * -s w) + (∑ d, P e d * b d) * (∑ w, X e w * c w)) * B
      = ∑ d, ∑ w, P e d * X e w * ((a d * c w + b d * s w) * A + (-(a d * s w) + b d * c w) * B) := by
    intro f e a b c s A B
    rw [sum_mul_sum, sum_mul_sum, sum_mul_sum, sum_mul_sum]
    simp only [sum_mul, ← sum_sub_distrib, ← sum_add_distrib]
    refine sum_congr rfl fun d _ => sum_congr rfl fun w _ => ?_
    ring
  have hl : ∀ f : Fin 91, (∑ e, ((∑ d : Fin 9, P e d * Real.cos (ang f.val (d.val - 4))) * (∑ w : Fin 180, X e w * Real.cos (ang f.val w.val))
          - (∑ d : Fin 9, P e d * Real.sin (ang f.val (d.val - 4))) * (∑ w : Fin 180, X e w * -Real.sin (ang f.val w.val))))
          * (alpha f.val * Real.cos (ang f.val v.val) / 180)
        + (∑ e, ((∑ d : Fin 9, P e d * Real.cos (ang f.val (d.val - 4))) * (∑ w : Fin 180, X e w * -Real.sin (ang f.val w.val))
          + (∑ d : Fin 9, P e d * Real.sin (ang f.val (d.val - 4))) * (∑ w : Fin 180, X e w * Real.cos (ang f.val w.val))))
          * (-alpha f.val * Real.sin (ang f.val v.val) / 180)
      = ∑ e, ∑ d : Fin 9, ∑ w : Fin 180, P e d * X e w * (alpha f.val / 180 * (Real.cos (ang f.val v.val)
        * (Real.cos (ang f.val (d.val - 4)) * Real.cos (ang f.val w.val) + Real.sin (ang f.val (d.val - 4)) * Real.sin (ang f.val w.val))
        - Real.sin (ang f.val v.val)
        * (-(Real.cos (ang f.val (d.val - 4)) * Real.sin (ang f.val w.val)) + Real.sin (ang f.val (d.val - 4)) * Real.cos (ang f.val w.val)))) := by
    intro f
    rw [sum_mul, sum_mul, ← sum_add_distrib]
    refine sum_congr rfl fun e _ => ?_
    rw [hx f e]
    refine sum_congr rfl fun d _ => sum_congr rfl fun w _ => ?_
    ring
  rw [sum_congr rfl fun f _ => hl f, sum_comm]
  refine sum_congr rfl fun e _ => ?_
  rw [sum_comm]
  refine sum_congr rfl fun d _ => sum_comm

/-- A sum over all longitudes of something supported within four of the origin, as a sum over nine offsets. -/
theorem near_lon (g : Fin 180 → ℝ) (h : ∀ w, ¬(w.val ≤ 4 ∨ 176 ≤ w.val) → g w = 0) :
    ∑ w, g w = ∑ d : Fin 9, g ⟨(d.val + 176) % 180, Nat.mod_lt _ (by norm_num)⟩ := by
  symm
  have hinj : Function.Injective (fun d : Fin 9 => (⟨(d.val + 176) % 180, Nat.mod_lt _ (by norm_num)⟩ : Fin 180)) := by
    intro a b hab
    have := Fin.ext_iff.mp hab
    simp only at this
    ext; omega
  refine (sum_map univ ⟨_, hinj⟩ g).symm.trans (sum_subset (subset_univ _) fun w _ hw => h w fun hc => hw ?_)
  rw [mem_map]
  refine ⟨⟨(w.val + 4) % 180, by omega⟩, mem_univ _, ?_⟩
  apply Fin.ext
  show ((w.val + 4) % 180 + 176) % 180 = w.val
  have := w.isLt
  omega

/-- A sum over all latitudes of something supported within two of row `o`, as a sum over five offsets, those off the grid
    counting nothing. -/
theorem near_lat (o : Fin 91) (g : Fin 91 → ℝ) (h : ∀ i, ¬(o.val ≤ i.val + 2 ∧ i.val ≤ o.val + 2) → g i = 0) :
    ∑ i, g i = ∑ e : Fin 5, if hv : 2 ≤ o.val + e.val ∧ o.val + e.val < 93 then g ⟨o.val + e.val - 2, by omega⟩ else 0 := by
  symm
  rw [← sum_filter_ne_zero (s := univ) (f := g)]
  refine sum_bij_ne_zero (fun (e : Fin 5) _ he => (⟨o.val + e.val - 2, by
      by_contra hc; apply he; rw [dif_neg (by omega)]⟩ : Fin 91)) ?_ ?_ ?_ ?_
  · intro e _ he
    rw [mem_filter]
    refine ⟨mem_univ _, ?_⟩
    by_cases hv : 2 ≤ o.val + e.val ∧ o.val + e.val < 93
    · rwa [dif_pos hv] at he
    · exact absurd (dif_neg hv) he
  · intro a _ ha b _ hb hab
    have h1 := Fin.ext_iff.mp hab
    simp only at h1
    have ha' : 2 ≤ o.val + a.val := by by_contra hc; exact ha (dif_neg (by omega))
    have hb' : 2 ≤ o.val + b.val := by by_contra hc; exact hb (dif_neg (by omega))
    ext; omega
  · intro i hi hne
    have hs : o.val ≤ i.val + 2 ∧ i.val ≤ o.val + 2 := by by_contra hc; exact hne (h i hc)
    have hi' := i.isLt
    have hv : 2 ≤ o.val + (i.val + 2 - o.val) ∧ o.val + (i.val + 2 - o.val) < 93 := by omega
    have hie : (⟨o.val + (i.val + 2 - o.val) - 2, by omega⟩ : Fin 91) = i := Fin.ext (by simp only; omega)
    refine ⟨⟨i.val + 2 - o.val, by omega⟩, mem_univ _, ?_, hie⟩
    rw [dif_pos hv, hie]; exact hne
  · intro e _ he
    by_cases hv : 2 ≤ o.val + e.val ∧ o.val + e.val < 93
    · exact dif_pos hv
    · exact absurd (dif_neg hv) he

end Cert.Circle

end
-- ==== Proof.Exact.Host.lean ====
/-
The arrays the two device calls are handed, element by element over the real numbers extended by the infinities.
-/
module

public import proofs.«01_k».proof.Proof.Gen.KernelIdeal.Launch
public import proofs.«01_k».proof.Proof.Circle
public import Idealize.ShloMosaic.PureOps.Ideal
public import Idealize.ShloMosaic.Lib.Pointwise
public import Idealize.ShloMosaic.Lib.Pointwise.IndexBridge
public import Idealize.ShloMosaic.Lib.StableHlo.RunRead
public import Idealize.ShloMosaic.Lib.StableHlo.ReadAt
public import Idealize.ShloMosaic.Lib.Tactic.WordOmega
public import Idealize.ShloMosaic.Lib.IdealHost
public import Idealize.ShloMosaic.Lib.Routing.OpsPair
public import Idealize.ShloMosaic.Lib.Routing.OpsSet

@[expose] public section

set_option maxRecDepth 16384

noncomputable section

namespace Cert.Exact

open Cert.KernelIdeal Cert.KernelIdeal.Gen
open Idealize.ShloMosaic Idealize.ShloMosaic.TcCoe Idealize.ShloMosaic.StableHlo
open scoped BigOperators

/-- A scatter that sets one block of a matrix, read at an element: inside the block the update, outside it the operand. -/
theorem set_block {α : Type} {R C R' C' w : ℕ} {si : Shape} (d : ScatterDims ⟨2, ![R, C]⟩ si ⟨2, ![R', C']⟩) (x : (⟨2, ![R, C]⟩ : Shape).Idx → α)
    (idx : IVec si w) (upd : (⟨2, ![R', C']⟩ : Shape).Idx → α) (s t : ℕ) (r : Fin R) (c : Fin C)
    (hs : ∀ k, d.start k idx 0 = s) (ht : ∀ k, d.start k idx 1 = t) (hw : ∀ k, d.window k 0 = (k 0).val) (hv : ∀ k, d.window k 1 = (k 1).val) :
    Host.scatter d (fun _ b => b) x idx upd (ix2 r c)
      = if h : (s ≤ r.val ∧ r.val < s + R') ∧ t ≤ c.val ∧ c.val < t + C' then upd (ix2 ⟨r.val - s, by omega⟩ ⟨c.val - t, by omega⟩) else x (ix2 r c) := by
  have key : ∀ k, d.resultIdx? k idx = some (ix2 r c) ↔ s + (k 0).val = r.val ∧ t + (k 1).val = c.val := fun k => by
    rw [ix2_eq_valueIdx]
    refine (Routing.resultIdx?_ix2 d k idx r c).trans ?_
    rw [hs, ht, hw, hv]
    omega
  by_cases h : (s ≤ r.val ∧ r.val < s + R') ∧ t ≤ c.val ∧ c.val < t + C'
  · rw [dif_pos h]
    refine Routing.scatter_set_hit d x idx upd _ _ (fun k hk => congrArg upd ?_) (ix2 ⟨r.val - s, by omega⟩ ⟨c.val - t, by omega⟩) ?_
    · have := (key k).1 hk
      rw [eq_ix2 k]
      congr 1 <;> apply Fin.ext
      · show (k 0).val = r.val - s; omega
      · show (k 1).val = c.val - t; omega
    · refine (key _).2 ⟨?_, ?_⟩
      · show s + (r.val - s) = r.val; omega
      · show t + (c.val - t) = c.val; omega
  · rw [dif_neg h]
    refine Routing.scatter_set_miss d x idx upd _ fun k hk => h ?_
    have := (key k).1 hk
    have h0 : (k 0).val < R' := (k 0).isLt
    have h1 : (k 1).val < C' := (k 1).isLt
    omega

theorem set_columns {α : Type} (x : S180x256.Idx → α) (upd : S180x91.Idx → α) (t : ℕ) (idx : IVec S1 32) (hi : ∀ k, (idx k).toInt = t) (r : Fin 180) (c : Fin 256) :
    Host.scatter scatter_S180x256_S1_S180x91_01_n_1_0 (fun _ b => b) x idx upd (ix2 r c)
      = if h : t ≤ c.val ∧ c.val < t + 91 then upd (ix2 r ⟨c.val - t, by omega⟩) else x (ix2 r c) := by
  refine (set_block scatter_S180x256_S1_S180x91_01_n_1_0 x idx upd 0 t r c (fun k => rfl) (fun k => hi _) (fun k => rfl) (fun k => rfl)).trans ?_
  simp

theorem set_corner {α : Type} (x : S256x192.Idx → α) (upd : S91x180.Idx → α) (s : ℕ) (idx : IVec S2 32) (hi : ∀ k, (idx k).toInt = if (k 0).val = 0 then (s : ℤ) else 0)
    (r : Fin 256) (c : Fin 192) :
    Host.scatter scatter_S256x192_S2_S91x180_01_n_01_0 (fun _ b => b) x idx upd (ix2 r c)
      = if h : (s ≤ r.val ∧ r.val < s + 91) ∧ c.val < 180 then upd (ix2 ⟨r.val - s, by omega⟩ ⟨c.val, h.2⟩) else x (ix2 r c) := by
  refine (set_block scatter_S256x192_S2_S91x180_01_n_01_0 x idx upd s 0 r c (fun k => hi _) (fun k => hi _) (fun k => rfl) (fun k => rfl)).trans ?_
  simp

/-! Numbers the host's tables are made of. -/

/-- A small word read as a real number. -/
theorem word_coe (n : ℕ) (h : n < 256) : FloatOps.sitofp (F := Ideal) .f32 (BitVec.ofNat 32 n) = ((n : ℝ) : EReal) := by
  have e : (BitVec.ofNat 32 n).toInt = n := by
    rw [BitVec.toInt_eq_toNat_of_lt] <;> rw [BitVec.toNat_ofNat] <;> omega
  show (((BitVec.ofNat 32 n).toInt : ℝ) : EReal) = _
  rw [e]; norm_cast

theorem two_coe : Ideal.ofBits .f32 1073741824#32 = ((2 : ℝ) : EReal) := by
  simp [Ideal.ofBits, Ideal.ieee, -EReal.coe_mul]; norm_num
theorem ninety_coe : Ideal.ofBits .f32 1119092736#32 = ((90 : ℝ) : EReal) := by
  simp [Ideal.ofBits, Ideal.ieee, -EReal.coe_mul]; norm_num
theorem circle_coe : Ideal.ofBits .f32 1127481344#32 = ((180 : ℝ) : EReal) := by
  simp [Ideal.ofBits, Ideal.ieee, -EReal.coe_mul]; norm_num
/-- The half turn. -/
theorem pi_coe : Ideal.acos (Ideal.ofBits .f32 3212836864#32) = ((Real.pi : ℝ) : EReal) := by
  have e : Ideal.ofBits .f32 3212836864#32 = ((-1 : ℝ) : EReal) := by
    simp [Ideal.ofBits, Ideal.ieee, -EReal.coe_mul, -EReal.coe_neg]; norm_num
  rw [e, Ideal.acos_coe, if_pos (by norm_num), Real.arccos_neg_one]

/-- A quotient by the number of longitudes. -/
theorem div_circle (x : ℝ) : Ideal.div (x : EReal) (Ideal.ofBits .f32 1127481344#32) = ((x / 180 : ℝ) : EReal) := by
  rw [circle_coe, Ideal.div_coe (by norm_num), ← EReal.coe_mul, mul_one_div]

/-- The angle of frequency `f` at longitude `w`, as the host computes it. -/
theorem ang_coe (w f : ℕ) (hw : w < 256) (hf : f < 256) :
    Ideal.div (Ideal.ofBits .f32 1073741824#32 * Ideal.acos (Ideal.ofBits .f32 3212836864#32) * FloatOps.sitofp (F := Ideal) .f32 (BitVec.ofNat 32 w)
      * FloatOps.sitofp (F := Ideal) .f32 (BitVec.ofNat 32 f)) (Ideal.ofBits .f32 1127481344#32) = ((Circle.ang f w : ℝ) : EReal) := by
  rw [two_coe, pi_coe, word_coe w hw, word_coe f hf]
  simp only [← EReal.coe_mul]
  rw [div_circle, Circle.ang]
  congr 1; ring

/-- The weight of a frequency, as the host selects it. -/
theorem alpha_coe (f : ℕ) (hf : f < 256) :
    Scalar.select (IntOp.ori (BitVec.ofBool (decide (FloatOps.sitofp (F := Ideal) FTy.f32 (BitVec.ofNat 32 f) = (0 : EReal))))
      (BitVec.ofBool (decide (FloatOps.sitofp (F := Ideal) FTy.f32 (BitVec.ofNat 32 f) = Ideal.ofBits FTy.f32 1119092736#32))))
      (1 : EReal) (Ideal.ofBits FTy.f32 1073741824#32) = ((Circle.alpha f : ℝ) : EReal) := by
  rw [word_coe f hf, ninety_coe, two_coe]
  have e0 : (((f : ℝ) : EReal) = 0) ↔ f = 0 := by norm_cast
  have e1 : (((f : ℝ) : EReal) = ((90 : ℝ) : EReal)) ↔ f = 90 := by norm_cast
  simp only [e0, e1]
  unfold Circle.alpha
  by_cases h0 : f = 0 <;> by_cases h1 : f = 90 <;> simp [h0, h1, Scalar.select, IntOp.ori]

/-- The forward table: cosines under the first lanes, minus the sines under the second half. -/
def fwdTab (w j : ℕ) : ℝ :=
  if 128 ≤ j ∧ j < 219 then -Real.sin (Circle.ang (j - 128 : ℕ) w) else if j < 91 then Real.cos (Circle.ang j w) else 0

/-- The inverse table. -/
def invTab (j w : ℕ) : ℝ :=
  if (128 ≤ j ∧ j < 219) ∧ w < 180 then -Circle.alpha (j - 128) * Real.sin (Circle.ang (j - 128 : ℕ) w) / 180
  else if j < 91 ∧ w < 180 then Circle.alpha j * Real.cos (Circle.ang j w) / 180 else 0

variable (U : Valuation τ sig (Elt Ideal))

set_option maxHeartbeats 1000000 in
/-- The padded input. -/
theorem read_v3 (r : Fin 100) (q : Fin 256) (w : Fin 180) :
    after hostOps0 U (Proc.devRef .tc main_call0_v3) (ix3 r q w)
      = if h : 2 ≤ r.val ∧ r.val < 93 then U (Proc.devRef .tc main_arg0) (ix4 ⟨q.val / 128, by omega⟩ ⟨q.val % 128, by omega⟩ ⟨r.val - 2, by omega⟩ w) else (0 : EReal) := by
  after_reads_at
  have e : (FloatOps.sitofp FTy.f32 0#32 : Ideal .f32) = (0 : EReal) := (word_coe 0 (by decide)).trans (by simp)
  by_cases h : 2 ≤ r.val ∧ r.val < 93
  · rw [dif_pos h, dif_pos ⟨h.1, by omega⟩]
  · rw [dif_neg h, dif_neg fun h' => h ⟨h'.1, by omega⟩, e]

set_option maxHeartbeats 1000000 in
/-- The weights, kernel plane by kernel plane. -/
theorem read_v152 (o : Fin 128) (q : Fin 384) :
    after hostOps0 U (Proc.devRef .tc main_call0_v152) (ix2 o q)
      = U (Proc.devRef .tc main_arg1) (ix3 o ⟨q.val % 128, by omega⟩ ⟨q.val / 128, by omega⟩) := by
  after_reads_at

set_option maxHeartbeats 1000000 in
/-- The forward table. -/
theorem read_v57 (w : Fin 180) (j : Fin 256) :
    after hostOps0 U (Proc.devRef .tc main_call0_v57) (ix2 w j) = ((fwdTab w.val j.val : ℝ) : EReal) := by
  after_reads_simp
  simp -implicitDefEqProofs only [StableHlo.TRef.toBuf, StableHlo.TRef.ofBuf, cast_cast, cast_eq]
  clean_types
  pointwise
  rw [set_columns _ _ 128 _ fun _ => rfl, set_columns _ _ 0 _ fun _ => rfl]
  pointwise
  unfold fwdTab
  have hw := w.isLt
  split_ifs with h1 h2
  · rw [ang_coe _ _ (by omega) (by omega), Ideal.sin_coe, EReal.coe_neg]
  · rw [ang_coe _ _ (by omega) (by omega), Ideal.cos_coe]
  · simp

set_option maxHeartbeats 1000000 in
/-- The inverse table. -/
theorem read_v58 (j : Fin 256) (w : Fin 192) :
    after hostOps0 U (Proc.devRef .tc main_call0_v58) (ix2 j w) = ((invTab j.val w.val : ℝ) : EReal) := by
  after_reads_simp
  simp -implicitDefEqProofs only [StableHlo.TRef.toBuf, StableHlo.TRef.ofBuf, cast_cast, cast_eq]
  clean_types
  pointwise
  rw [set_corner _ _ 128 _ fun k => ?_, set_corner _ _ 0 _ fun k => ?_]
  · simp only [id_eq]
    pointwise
    unfold invTab
    have hw := w.isLt
    split_ifs with h1 h2
    · rw [ang_coe _ _ (by omega) (by omega), alpha_coe _ (by omega), Ideal.sin_coe, ← EReal.coe_neg, ← EReal.coe_mul, div_circle]
    · rw [ang_coe _ _ (by omega) (by omega), alpha_coe _ (by omega), Ideal.cos_coe, ← EReal.coe_mul, div_circle]
    · simp
  · have e0 : upto hostOps0 U 60 (Proc.devRef .tc main_call0_v40) (ix1 0) = 0#32 := by after_reads_at
    have e1 : upto hostOps0 U 60 (Proc.devRef .tc main_call0_v41) (ix1 0) = 0#32 := by after_reads_at
    idx_vars k
    pointwise
    fin_cases k0
    · exact congrArg BitVec.toInt e0
    · exact congrArg BitVec.toInt e1
  · have e0 : upto hostOps0 U 76 (Proc.devRef .tc main_call0_v53) (ix1 0) = 128#32 := by after_reads_at
    have e1 : upto hostOps0 U 76 (Proc.devRef .tc main_call0_v54) (ix1 0) = 0#32 := by after_reads_at
    idx_vars k
    pointwise
    fin_cases k0
    · exact congrArg BitVec.toInt e0
    · exact congrArg BitVec.toInt e1

end Cert.Exact
-- ==== Proof.Exact.HostPsi.lean ====
/-
The coefficients the second device call is handed: the kernel planes' rows near a latitude, transformed along the longitudes.
-/
module

public import proofs.«01_k».proof.Proof.Exact.Host

@[expose] public section

set_option maxRecDepth 16384

noncomputable section

namespace Cert.Exact

open Cert.KernelIdeal Cert.KernelIdeal.Gen
open Idealize.ShloMosaic Idealize.ShloMosaic.TcCoe Idealize.ShloMosaic.StableHlo
open scoped BigOperators

variable (U : Valuation τ sig (Elt Ideal))

/-- The gather of the kernel planes' rows, at an element whose three index words are known and in range. -/
theorem gather_rows {α : Type} (x : S3x91x91x180.Idx → α) (idx : IVec S96x5x9x3 32) (k : Fin 3) (g : Fin 96) (h : Fin 5) (d : Fin 9)
    (a b : Fin 91) (c : Fin 180) (ha : (idx (ix4 g h d 0)).toInt.toNat = a.val) (hb : (idx (ix4 g h d 1)).toInt.toNat = b.val)
    (hc : (idx (ix4 g h d 2)).toInt.toNat = c.val) :
    Host.gather gather_S3x91x91x180_S96x5x9x3_S3x96x5x9_0_123_n_n_123_3_3111 x idx (ix4 k g h d) = x (ix4 k a b c) := by
  have e : ∀ (n : Fin 3), gather_S3x91x91x180_S96x5x9x3_S3x96x5x9_0_123_n_n_123_3_3111.siIdx (ix4 k g h d) n = ix4 g h d n := fun n => by
    funext z
    match z with
    | ⟨0, _⟩ => rfl
    | ⟨1, _⟩ => rfl
    | ⟨2, _⟩ => rfl
    | ⟨3, _⟩ => rfl
  refine congrArg x (funext fun z => Fin.ext ?_)
  match z with
  | ⟨0, _⟩ => show 0 + 0 + k.val = k.val; omega
  | ⟨1, _⟩ =>
    show min (idx (gather_S3x91x91x180_S96x5x9x3_S3x96x5x9_0_123_n_n_123_3_3111.siIdx (ix4 k g h d) (0 : Fin 3))).toInt.toNat 90 + 0 + 0 = a.val
    rw [e, ha]; omega
  | ⟨2, _⟩ =>
    show min (idx (gather_S3x91x91x180_S96x5x9x3_S3x96x5x9_0_123_n_n_123_3_3111.siIdx (ix4 k g h d) (1 : Fin 3))).toInt.toNat 90 + 0 + 0 = b.val
    rw [e, hb]; omega
  | ⟨3, _⟩ =>
    show min (idx (gather_S3x91x91x180_S96x5x9x3_S3x96x5x9_0_123_n_n_123_3_3111.siIdx (ix4 k g h d) (2 : Fin 3))).toInt.toNat 179 + 0 + 0 = c.val
    rw [e, hc]; omega

/-- The latitude `h` rows down from two rows above row `g`, kept in range. -/
def nearLat (g : Fin 96) (h : Fin 5) : Fin 91 := ⟨min (g.val + h.val - 2) 90, by omega⟩
/-- Row `g` as a latitude, kept in range. -/
def rowLat (g : Fin 96) : Fin 91 := ⟨min g.val 90, by omega⟩
/-- The longitude `d - 4` places on, round the circle. -/
def nearLon (d : Fin 9) : Fin 180 := ⟨(d.val + 176) % 180, by omega⟩

set_option maxHeartbeats 1000000 in
/-- The three index words of the gather. -/
theorem read_v106 (g : Fin 96) (h : Fin 5) (d : Fin 9) :
    (BitVec.toInt (n := 32) (upto hostOps0 U 170 (Proc.devRef .tc main_call0_v106) (ix4 g h d 0))).toNat = (rowLat g).val := by
  after_reads_at
  revert g
  decide +kernel
set_option maxHeartbeats 1000000 in
theorem read_v107 (g : Fin 96) (h : Fin 5) (d : Fin 9) :
    (BitVec.toInt (n := 32) (upto hostOps0 U 170 (Proc.devRef .tc main_call0_v107) (ix4 g h d 0))).toNat = (nearLat g h).val := by
  after_reads_at
  revert g h
  decide +kernel
set_option maxHeartbeats 1000000 in
theorem read_v108 (g : Fin 96) (h : Fin 5) (d : Fin 9) :
    (BitVec.toInt (n := 32) (upto hostOps0 U 170 (Proc.devRef .tc main_call0_v108) (ix4 g h d 0))).toNat = (nearLon d).val := by
  after_reads_at
  revert d
  decide +kernel

/-- Whether row `g` is a latitude and the latitude `h` rows down from two rows above it is one too: the host's mask. -/
theorem mask_coe (g : Fin 96) (h : Fin 5) :
    FloatOps.uitofp (F := Ideal) FTy.f32 (IntOp.andi (IntOp.andi
      (IntOp.cmpi CmpIPredicate.sge (IntOp.subi (IntOp.addi (BitVec.ofNat 32 g.val) (BitVec.ofNat 32 h.val)) 2#32) 0#32)
      (IntOp.cmpi CmpIPredicate.slt (IntOp.subi (IntOp.addi (BitVec.ofNat 32 g.val) (BitVec.ofNat 32 h.val)) 2#32) 91#32))
      (IntOp.cmpi CmpIPredicate.slt (BitVec.ofNat 32 g.val) 91#32))
      = if 2 ≤ g.val + h.val ∧ g.val + h.val < 93 ∧ g.val < 91 then (1 : EReal) else 0 := by
  have e : ∀ (g : Fin 96) (h : Fin 5), IntOp.andi (IntOp.andi
      (IntOp.cmpi CmpIPredicate.sge (IntOp.subi (IntOp.addi (BitVec.ofNat 32 g.val) (BitVec.ofNat 32 h.val)) 2#32) 0#32)
      (IntOp.cmpi CmpIPredicate.slt (IntOp.subi (IntOp.addi (BitVec.ofNat 32 g.val) (BitVec.ofNat 32 h.val)) 2#32) 91#32))
      (IntOp.cmpi CmpIPredicate.slt (BitVec.ofNat 32 g.val) 91#32)
      = if 2 ≤ g.val + h.val ∧ g.val + h.val < 93 ∧ g.val < 91 then 1#1 else 0#1 := by decide +kernel
  rw [e]
  split_ifs
  · show (((1#1 : BitVec 1).toNat : ℝ) : EReal) = 1
    simp
  · show (((0#1 : BitVec 1).toNat : ℝ) : EReal) = 0
    simp

/-- The kernel planes near row `g`: zero where a row is not a latitude. -/
def near (P : S3x91x91x180.Idx → EReal) (g : Fin 96) (k : Fin 3) (h : Fin 5) (d : Fin 9) : EReal :=
  P (ix4 k (rowLat g) (nearLat g h) (nearLon d)) * if 2 ≤ g.val + h.val ∧ g.val + h.val < 93 ∧ g.val < 91 then 1 else 0

/-- The angle of frequency `f` at `d - 4` longitudes on, as the host computes it. -/
theorem off_coe (f d : ℕ) (hf : f < 256) (hd : d < 256) :
    Ideal.div (Ideal.ofBits FTy.f32 1073741824#32 * Ideal.acos (Ideal.ofBits FTy.f32 3212836864#32) * FloatOps.sitofp (F := Ideal) FTy.f32 (BitVec.ofNat 32 f)
      * (FloatOps.sitofp (F := Ideal) FTy.f32 (BitVec.ofNat 32 d) - Ideal.ofBits FTy.f32 1082130432#32)) (Ideal.ofBits FTy.f32 1127481344#32)
      = ((Circle.ang f ((d : ℝ) - 4) : ℝ) : EReal) := by
  have e : Ideal.ofBits .f32 1082130432#32 = ((4 : ℝ) : EReal) := by
    simp [Ideal.ofBits, Ideal.ieee, -EReal.coe_mul]; norm_num
  rw [two_coe, pi_coe, word_coe f hf, word_coe d hd, e, ← EReal.coe_sub]
  simp only [← EReal.coe_mul]
  rw [div_circle, Circle.ang]

/-- The rows the host gathers, masked. -/
theorem gathered (g : Fin 96) (k : Fin 3) (h : Fin 5) (d : Fin 9) (idx : IVec S96x5x9x3 32)
    (hi : ∀ n, idx (ix4 g h d n) = ![upto hostOps0 U 170 (Proc.devRef .tc main_call0_v106) (ix4 g h d 0),
      upto hostOps0 U 170 (Proc.devRef .tc main_call0_v107) (ix4 g h d 0), upto hostOps0 U 170 (Proc.devRef .tc main_call0_v108) (ix4 g h d 0)] n)
    (P : S3x91x91x180.Idx → EReal) :
    Host.gather gather_S3x91x91x180_S96x5x9x3_S3x96x5x9_0_123_n_n_123_3_3111 P idx (ix4 k g h d) = P (ix4 k (rowLat g) (nearLat g h) (nearLon d)) := by
  apply gather_rows
  · rw [hi]; exact read_v106 U g h d
  · rw [hi]; exact read_v107 U g h d
  · rw [hi]; exact read_v108 U g h d

set_option maxHeartbeats 1000000 in
/-- The cosine part of the transform of the gathered rows. -/
theorem read_v145 (g : Fin 96) (k : Fin 3) (h : Fin 5) (z : Fin 1) (f : Fin 91) :
    upto hostOps0 U 214 (Proc.devRef .tc main_call0_v145) (ix5 g k h z f)
      = ∑ d : Fin 9, near (U (Proc.devRef .tc main_arg3)) g k h d * ((Real.cos (Circle.ang f.val ((d.val : ℝ) - 4)) : ℝ) : EReal) := by
  after_reads_at
  have hf := f.isLt
  refine Finset.sum_congr rfl fun d _ => ?_
  have hd := d.isLt
  rw [mask_coe, off_coe _ _ (by omega) (by omega), Ideal.cos_coe, gathered U g k h d _ fun n => ?_]
  · rfl
  · pointwise
    fin_cases n <;> rfl

set_option maxHeartbeats 1000000 in
/-- The sine part of the transform of the gathered rows. -/
theorem read_v146 (g : Fin 96) (k : Fin 3) (h : Fin 5) (z : Fin 1) (f : Fin 91) :
    upto hostOps0 U 214 (Proc.devRef .tc main_call0_v146) (ix5 g k h z f)
      = ∑ d : Fin 9, near (U (Proc.devRef .tc main_arg3)) g k h d * ((Real.sin (Circle.ang f.val ((d.val : ℝ) - 4)) : ℝ) : EReal) := by
  after_reads_at
  have hf := f.isLt
  refine Finset.sum_congr rfl fun d _ => ?_
  have hd := d.isLt
  rw [mask_coe, off_coe _ _ (by omega) (by omega), Ideal.sin_coe, gathered U g k h d _ fun n => ?_]
  · rfl
  · pointwise
    fin_cases n <;> rfl

set_option maxHeartbeats 1000000 in
/-- **The coefficients.** Row `(k * 5 + h) * 2 + p` of row `g`'s table holds the cosine (`p = 0`) or sine (`p = 1`) part. -/
theorem read_v149 (g : Fin 96) (n : Fin 30) (f : Fin 96) :
    after hostOps0 U (Proc.devRef .tc main_call0_v149) (ix3 g n f)
      = if f.val < 91 then ∑ d : Fin 9, near (U (Proc.devRef .tc main_arg3)) g ⟨n.val / 10, by omega⟩ ⟨n.val / 2 % 5, by omega⟩ d
          * (((if n.val % 2 = 0 then Real.cos else Real.sin) (Circle.ang f.val ((d.val : ℝ) - 4)) : ℝ) : EReal)
        else (0 : EReal) := by
  after_reads_simp
  simp -implicitDefEqProofs only [StableHlo.TRef.toBuf, StableHlo.TRef.ofBuf, cast_cast, cast_eq]
  clean_types
  pointwise
  by_cases hf : f.val < 91
  · refine (dif_pos hf).trans (Eq.trans ?_ (if_pos hf).symm)
    by_cases hn : n.val % 2 = 0
    · refine (dif_pos (by omega)).trans ((read_v145 U g ⟨n.val / 10, by omega⟩ ⟨n.val / 2 % 5, by omega⟩ _ ⟨f.val, hf⟩).trans ?_)
      simp only [if_pos hn]
    · refine (dif_neg (by omega)).trans ((read_v146 U g ⟨n.val / 10, by omega⟩ ⟨n.val / 2 % 5, by omega⟩ _ ⟨f.val, hf⟩).trans ?_)
      simp only [if_neg hn]
  · refine (dif_neg hf).trans (Eq.trans ?_ (if_neg hf).symm)
    exact (word_coe 0 (by decide)).trans (by simp)

end Cert.Exact
-- ==== Proof.Exact.Dft.lean ====
/-
The first device call: the transform of the input along the circle of longitudes.

For every point of its grid: what the two input blocks are, what the body leaves in the output block, and the body's
obligation towards the pipeline. Everything is stated at any contents `V` of the arrays the call is entered with.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Exact

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the first call, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The second input's staging buffer holds its block at every point, though it is fetched once. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The rectangle each load and the store of the body cover: the whole block. -/
abbrev r0_0 : Rect S25x256x180 := Rect.unit (s := S25x256x180) ![0, 0, 0] S25x256x180.size inb_S25x256x180_S25x256x180_0_0_0
abbrev r0_1 : Rect S180x256 := Rect.unit (s := S180x256) ![0, 0] S180x256.size inb_S180x256_S180x256_0_0
abbrev r0_2 : Rect S25x256x256 := Rect.unit (s := S25x256x256) ![0, 0, 0] S25x256x256.size inb_S25x256x256_S25x256x256_0_0_0

/-- What the body leaves in the output block: one store, of the whole block. -/
def out0_2 (x0 : Vec F S25x256x180 .bf16) (x1 : Vec F S180x256 .bf16) : Vec F S25x256x256 .f32 :=
  View.canon [⟨r0_2, k0_pay1 (View.ld x0 r0_0) (View.ld x1 r0_1)⟩]

/-- The store covers the block. -/
theorem cover0_2 (p0 : Vec F S25x256x256 .f32) (y : S25x256x256.Idx) :
    ∃ pc ∈ ([⟨r0_2, p0⟩] : List (View.Piece (Elt F) S25x256x256 .f32)), y ∈ pc.1.set :=
  View.cover_of_tiled [⟨r0_2, p0⟩] S25x256x256.size (by rfl) y

set_option maxHeartbeats 1000000 in
/-- The body run on whole staging buffers: the inputs stay, the output ends at `out0_2` of the inputs. -/
theorem sound_kernel0 (c : Dev nD) (E : Set ℕ) (i : grid0.Coords) (arg1 : Memref sig .tc .vmem S25x256x180 .bf16) (harg1 : arg1.IsWhole) (arg2 : Memref sig .tc .vmem S180x256 .bf16) (harg2 : arg2.IsWhole) (arg3 : Memref sig .tc .vmem S25x256x256 .f32) (harg3 : arg3.IsWhole)
    (x0 : Vec F S25x256x180 .bf16) (x1 : Vec F S180x256 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__dft_body i arg1 harg1 arg2 harg2 arg3 harg3) K := by
  simp only [cc0__dft_body_eq_skeleton]; unfold cc0__dft_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The data of the first call: its arrays as it finds them, each block after each point, nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The arrays of the call's data are the contents it is entered with. -/
theorem A_eq0 (c : Dev nD) (w : Fin cfg0.W) : (dat0 V c).A w = V c (Pipeline.arrRef spec0 w) := by
  dsimp only [dat0]

/-- What each staging buffer holds after the body, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- What each input's staging buffer holds before the body. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is handed at point `t`. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What the body gives back at point `t`. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body takes what it is handed to what it gives back, at every point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body the pipeline calls at point `t` is the body on that point's staging buffers. -/
theorem defs₀_row0 (t : Fin cfg0.N) :
    defs₀ (F := F) .tc cfg0.body (cfg0.bodyArgs t (cfg0.slots t)) = bodyAt0 t := by
  unfold defs₀; rw [Defs.onTc_tc]

/-- The obligation of the first call's body, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.Exact

end
-- ==== Proof.Exact.ArrayDft.lean ====
/-
The array the first device call leaves, over the real numbers extended by the infinities: every entry is the sum over
the longitudes of an input entry times an entry of the forward transform table.
-/
module

public import proofs.«01_k».proof.Proof.Exact.Dft
public import Idealize.ShloMosaic.PureOps.Ideal
public import Idealize.ShloMosaic.Lib.Pointwise
public import Idealize.ShloMosaic.Lib.Pipeline.ValueKit

@[expose] public section

set_option maxRecDepth 16384

noncomputable section

namespace Cert.Exact

open Cert.KernelIdeal Cert.KernelIdeal.Gen
open Idealize.ShloMosaic Idealize.ShloMosaic.TcCoe
open scoped BigOperators

variable (V : (c : Dev nD) → (b : Ref sig .tc) → Buf (Elt Ideal) ((c : Thread nD τ).loc b))

/-- The product with the forward table: over all longitudes, input entry times table entry. -/
def spectrum (xh : FVec Ideal S100x256x180 .bf16) (fwd : FVec Ideal S180x256 .bf16) : FVec Ideal S100x256x256 .f32 :=
  fun j => ∑ w : Fin 180, xh (ix3 (j 0) (j 1) w) * fwd (ix2 w (j 2))

/-- The first call's body at an element of its block. -/
theorem out0_2_apply (x0 : Vec Ideal S25x256x180 .bf16) (x1 : Vec Ideal S180x256 .bf16) (y : S25x256x256.Idx) :
    out0_2 x0 x1 y = ∑ w : Fin 180, x0 (ix3 (y 0) (y 1) w) * x1 (ix2 w (y 2)) := by
  unfold out0_2
  frame_out
  pointwise [k0_pay1]

/-- Which block of each array the grid's point `t` works on. -/
theorem idx0 (t : Fin grid0.N) : win0_0.index t = ![(grid0.coords t 0).val, 0, 0] ∧ win0_1.index t = ![0, 0]
    ∧ win0_2.index t = ![(grid0.coords t 0).val, 0, 0] := by
  revert t; decide +kernel

/-- **What the first call leaves in its output array.** -/
theorem arr0 (c : Dev nD) : (dat0 V c).arrAt 2 cfg0.N = spectrum (V c main_call0_v3) (V c main_call0_v57) := by
  refine (dat0 V c).arrAt_eq_of_covers 2 _ (by decide +kernel) fun t hf y => ?_
  blk_simp
  rw [after0_2]
  refine (out0_2_apply _ _ y).trans (Finset.sum_congr (M := EReal) rfl fun w _ => congrArg₂ (fun a b : EReal => a * b) ?_ ?_)
  · blk_ext [iblk0, idx0 t]
  · blk_ext [iblk0, idx0 t]

end Cert.Exact
-- ==== Proof.Exact.ConvBlocks.lean ====
/-
The second device call (the convolution), what its runs are stated over: the blocks of the four inputs, when the
body's one conditional is taken, the buffers a point works on, and the scratch carried from point to point.
-/
module

public import proofs.«01_k».proof.Proof.Exact.Dft

@[expose] public section

set_option maxRecDepth 16384

noncomputable section

namespace Cert.Exact

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the convolution call, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input's staging buffer holds its block at every point (likewise the other three below). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The condition of the body's conditional, in terms of the grid coordinate. -/
abbrev cond1_0 (i : grid1.Coords) : Prop := (Scalar.cmpi .ne (Scalar.extui (Scalar.cmpi .eq (BitVec.ofNat 32 (i 0).val) 0#32)) 0#32) = 1#1
/-- The conditional is taken at the first point only. -/
theorem hcond1_0 : ∀ t : Fin cfg1.N, cond1_0 (grid1.coords t) ↔ t.val % 96 = 0 :=
  (fun t => by
    have ht : t.val < 96 := Nat.lt_of_lt_of_eq t.isLt N_1
    have e0 : (grid1.coords t 0).val = t.val / 1 % 96 := Pipeline.Grid.coords_val t 0 (by decide) rfl
    simp only [cond1_0, e0]
    word_cmp
   : ∀ t : Fin grid1.N, cond1_0 (grid1.coords t) ↔ t.val % 96 = 0)

/-- The output's staging buffer, as a view through which its contents are stated. -/
abbrev VO1_4 : View sig .tc .vmem S2x1x128x192 .f32 := (Memref.whole cc1_stg4_0 : Memref sig .tc .vmem S2x1x128x192 .f32).view
/-- The staging buffer of each window at point `t`, and that it is a whole buffer. -/
abbrev ms1_0 (t : Fin cfg1.N) : Memref sig .tc .vmem S100x256x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S96x30x96 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x384 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x192 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2x1x128x192 .f32 := win1_4.stage (cfg1.slots t 4)
abbrev hs1_4 (t : Fin cfg1.N) : (ms1_4 t).IsWhole := hstage1_4 ((cfg1.slots t 4).cast nbuf1_4)
/-- The scratch, a whole buffer of the call's own. -/
abbrev scM1_0 : Memref sig .tc .vmem S2x384x256 .bf16 := Memref.whole cc1_scratch0

/-- The scratch as a view through which its contents are stated. -/
abbrev VS1_0 : View sig .tc .vmem S2x384x256 .bf16 := scM1_0.view

/-- The staging buffers of the first call, which ride through the second at whatever they hold. -/
abbrev others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- What the launch hands the second call: the other buffers, the scratch at anything, the generator register. -/
theorem PhiA1_eq (c : Dev nD) :
    (Pipeline.ΦA spec1 c : sProp 𝕄)
      = iprop(iprop(others c ∗ (∃ d, owns (c : Thread nD τ) scM1_0 fullShare d)) ∗ (∃ r, prngReg c r)) := by
  unfold Pipeline.ΦA; rw [scopedRest1_eq]; simp only [scM1_0, owns_whole]
  congr 1
  have e {a b c d e f : sProp 𝕄} : iprop(a ∗ b ∗ c ∗ d ∗ e ∗ f) = iprop((a ∗ b ∗ c ∗ d ∗ e) ∗ f) := by
    refine equiv_iff.mp ⟨?_, ?_⟩
    · show iprop(a ∗ b ∗ c ∗ d ∗ e ∗ f) ⊢ iprop((a ∗ b ∗ c ∗ d ∗ e) ∗ f)
      iintro ⟨Ha, Hb, Hc, Hd, He, Hf⟩
      isplitr [Hf]; swap; · iexact Hf
      isplitl [Ha]; · iexact Ha
      isplitl [Hb]; · iexact Hb
      isplitl [Hc]; · iexact Hc
      isplitl [Hd] <;> iassumption
    · show iprop((a ∗ b ∗ c ∗ d ∗ e) ∗ f) ⊢ iprop(a ∗ b ∗ c ∗ d ∗ e ∗ f)
      iintro ⟨⟨Ha, Hb, Hc, Hd, He⟩, Hf⟩
      isplitl [Ha]; · iexact Ha
      isplitl [Hb]; · iexact Hb
      isplitl [Hc]; · iexact Hc
      isplitl [Hd]; · iexact Hd
      isplitl [He] <;> iassumption
  exact e

end Cert.Exact

end
-- ==== Proof.Exact.ConvFirst.lean ====
/-
The body of the convolution at the first point, where the scratch is first filled with zeros: the stores it makes, as a
list of rectangles with the values written there, and the proof that the body makes them.
-/
module

public import proofs.«01_k».proof.Proof.Exact.ConvBlocks

@[expose] public section

set_option maxRecDepth 16384

noncomputable section

namespace Cert.Exact

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords)
  (arg1 : Memref sig .tc .vmem S100x256x256 .f32) (harg1 : arg1.IsWhole) (arg2 : Memref sig .tc .vmem S96x30x96 .f32) (harg2 : arg2.IsWhole)
  (arg3 : Memref sig .tc .vmem S128x384 .bf16) (harg3 : arg3.IsWhole) (arg4 : Memref sig .tc .vmem S256x192 .bf16) (harg4 : arg4.IsWhole)
  (arg5 : Memref sig .tc .vmem S2x1x128x192 .f32) (harg5 : arg5.IsWhole) (arg6 : Memref sig .tc .vmem S2x384x256 .bf16) (harg6 : arg6.IsWhole)

set_option maxHeartbeats 2076000 in
/-- The stores of the body at the first point (last first): those into the output, those into the scratch, and the proof that the
    body run on whole buffers leaves the inputs as they were and makes exactly these stores. -/
noncomputable def kernelRun1_A (hc0 : cond1_0 i)
    (x0 : Vec F S100x256x256 .f32) (x1 : Vec F S96x30x96 .f32) (x2 : Vec F S128x384 .bf16) (x3 : Vec F S256x192 .bf16) :
    Σ' (L4 : List (View.Piece (Elt F) S2x1x128x192 .f32)), { LS0 : List (View.Piece (Elt F) S2x384x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc1__conv_body i arg1 harg1 arg2 harg2 arg3 harg3 arg4 harg4 arg5 harg5 arg6 harg6) K } := by
  refine ⟨?_, ?_, fun E K => ?run⟩
  case run =>
    simp only [cc1__conv_body_eq_skeleton]; unfold cc1__conv_body_skel
    simp only [k1_part55_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

end Cert.Exact

end
-- ==== Proof.Exact.ConvLater.lean ====
/-
The body of the convolution at every later point, where the scratch holds what the point before left: the stores it
makes, as a list of rectangles with the values written there, and the proof that the body makes them.
-/
module

public import proofs.«01_k».proof.Proof.Exact.ConvFirst

@[expose] public section

set_option maxRecDepth 16384

noncomputable section

namespace Cert.Exact

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords)
  (arg1 : Memref sig .tc .vmem S100x256x256 .f32) (harg1 : arg1.IsWhole) (arg2 : Memref sig .tc .vmem S96x30x96 .f32) (harg2 : arg2.IsWhole)
  (arg3 : Memref sig .tc .vmem S128x384 .bf16) (harg3 : arg3.IsWhole) (arg4 : Memref sig .tc .vmem S256x192 .bf16) (harg4 : arg4.IsWhole)
  (arg5 : Memref sig .tc .vmem S2x1x128x192 .f32) (harg5 : arg5.IsWhole) (arg6 : Memref sig .tc .vmem S2x384x256 .bf16) (harg6 : arg6.IsWhole)

set_option maxHeartbeats 2064000 in
/-- The stores of the body at a later point (last first), the scratch holding `xs0` before: those into the output, those into
    the scratch, and the proof that the body run on whole buffers leaves the inputs as they were and makes exactly these stores. -/
noncomputable def kernelRun1_B (hc0 : ¬cond1_0 i)
    (x0 : Vec F S100x256x256 .f32) (x1 : Vec F S96x30x96 .f32) (x2 : Vec F S128x384 .bf16) (x3 : Vec F S256x192 .bf16) (xs0 : Vec F S2x384x256 .bf16) :
    Σ' (L4 : List (View.Piece (Elt F) S2x1x128x192 .f32)), { LS0 : List (View.Piece (Elt F) S2x384x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (arg6.view.loc (c : Thread nD τ) ↦[arg6.view.set]{fullShare} arg6.view.writes (Elt F) (harg6.unread xs0) LS0)) -∗ K ⟨⟩))
          ⊢ wp frame (wpE (defs₀ (F := F)) Variants.none c none) E (cc1__conv_body i arg1 harg1 arg2 harg2 arg3 harg3 arg4 harg4 arg5 harg5 arg6 harg6) K } := by
  refine ⟨?_, ?_, fun E K => ?run⟩
  case run =>
    simp only [cc1__conv_body_eq_skeleton]; unfold cc1__conv_body_skel
    simp only [k1_part55_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexact HS0

end Cert.Exact

end
-- ==== Proof.Exact.Strips.lean ====
/-
The convolution body's stores into its scratch, said once for every chunk of image planes and every kernel
plane: what each stores is one expression in the two coefficient rows and the ten image rows it loads.
-/
module

public import proofs.«01_k».proof.Proof.Exact.ConvFirst
public import proofs.«01_k».proof.Proof.Exact.ConvLater
public import Idealize.ShloMosaic.Lib.ValueIdx
public import Idealize.ShloMosaic.Lib.ValueLayout

@[expose] public section

set_option maxRecDepth 16384

noncomputable section

namespace Cert.Exact

open Idealize.ShloMosaic Idealize.ShloMosaic.TcCoe
open Cert.KernelIdeal Cert.KernelIdeal.Gen Idealize.ShloMosaic.ValueIdx

variable {F : FTy → Type} [FloatOps F]

/-- Where the body reads image rows: row `i + d` of the transformed image, planes from `lo` on, lanes from `lane` on. -/
def rowAt (i : grid1.Coords) (lo lane : ℕ) (d : BitVec 32) : Fin 3 → ℕ :=
  ![(Scalar.indexCast (Scalar.addi (BitVec.ofNat 32 (i 0).val) d)).toNat, lo, lane]

theorem rowAt_head : ∀ (i : grid1.Coords) (d : Fin 5),
    (Scalar.indexCast (Scalar.addi (BitVec.ofNat 32 (i 0).val) (BitVec.ofNat 32 d.val))).toNat = (i 0).val + d.val := by
  decide +kernel

/-- In closed form. -/
theorem rowAt_eq (i : grid1.Coords) (lo lane : ℕ) (d : Fin 5) :
    rowAt i lo lane (BitVec.ofNat 32 d.val) = ![(i 0).val + d.val, lo, lane] := by
  rw [rowAt, rowAt_head]

/-- Those rows are in bounds. -/
theorem rowAt_inb (i : grid1.Coords) (c : Fin 8) (p : Fin 2) (d : Fin 5) (a : Fin 3) :
    rowAt i (32 * c.val) (128 * p.val) (BitVec.ofNat 32 d.val) a + S1x32x96.size a ≤ S100x256x256.size a := by
  have hi : (i 0).val < 96 := (i 0).isLt
  rw [rowAt_eq]
  fin_cases a <;> simp [S1x32x96, S100x256x256] <;> omega

/-- The image row a chunk `c` reads `d` rows down, real half (`p = 0`) or imaginary half (`p = 1`). -/
def xRow (X : Vec F S100x256x256 .f32) (i : grid1.Coords) (c : Fin 8) (p : Fin 2) (d : Fin 5) : FVec F S32x96 .f32 :=
  shapeCast S32x96 (View.ld X (Rect.unit (s := S100x256x256) (rowAt i (32 * c.val) (128 * p.val) (BitVec.ofNat 32 d.val))
    S1x32x96.size (rowAt_inb i c p d))) shapeCasts_S1x32x96_S32x96

/-- The coefficient rows of one output row, from the table of all of them. -/
def aRows (A : Vec F S96x30x96 .f32) (i : grid1.Coords) : FVec F S30x96 .f32 :=
  shapeCast S30x96 (View.ld A (Rect.unit (s := S96x30x96) (k1_off1 i) S1x30x96.size (k1_off1_inb i))) shapeCasts_S1x30x96_S30x96

theorem slices_row : ∀ n : Fin 30, S30x96.Slices ![n.val, 0] S1x96 := by decide

/-- Coefficient row `n`, repeated over the planes of a chunk. -/
def aRow (A : FVec F S30x96 .f32) (n : Fin 30) : FVec F S32x96 .f32 :=
  broadcastTo S32x96 (shapeCast S1x96 (shapeCast S96 (extractStridedSlice S1x96 ![n.val, 0] A (slices_row n)) shapeCasts_S1x96_S96)
    shapeCasts_S96_S1x96) broadcasts_S1x96_S32x96

/-- The row of the coefficients for kernel plane `k`, `d` rows down: cosine (`p = 0`) or sine (`p = 1`) part. -/
def aIx (k : Fin 3) (d : Fin 5) (p : Fin 2) : Fin 30 := ⟨(k.val * 5 + d.val) * 2 + p.val, by omega⟩

/-- The real part of the sum over the five rows. -/
def accRe (A : FVec F S30x96 .f32) (re im : Fin 5 → FVec F S32x96 .f32) (k : Fin 3) : FVec F S32x96 .f32 :=
  List.foldl (fun acc d => subf (addf acc (mulf (aRow A (aIx k d 0)) (re d))) (mulf (aRow A (aIx k d 1)) (im d)))
    (broadcast S32x96 (Scalar.ofBits .f32 0x00000000#32)) [0, 1, 2, 3, 4]

/-- The imaginary part of the sum over the five rows. -/
def accIm (A : FVec F S30x96 .f32) (re im : Fin 5 → FVec F S32x96 .f32) (k : Fin 3) : FVec F S32x96 .f32 :=
  List.foldl (fun acc d => addf (addf acc (mulf (aRow A (aIx k d 0)) (im d))) (mulf (aRow A (aIx k d 1)) (re d)))
    (broadcast S32x96 (Scalar.ofBits .f32 0x00000000#32)) [0, 1, 2, 3, 4]

/-- Where a chunk's sums go in the scratch. -/
def stripAt (c : Fin 8) (k : Fin 3) (p : Fin 2) : Fin 3 → ℕ := ![c.val / 4, 128 * k.val + 32 * (c.val % 4), 128 * p.val]

theorem stripAt_inb : ∀ (c : Fin 8) (k : Fin 3) (p : Fin 2) (a : Fin 3),
    stripAt c k p a + S1x32x96.size a ≤ S2x384x256.size a := by decide

/-- What chunk `c` stores for kernel plane `k`: the sum's real or imaginary part, narrowed. -/
def stripPay (X : Vec F S100x256x256 .f32) (A : Vec F S96x30x96 .f32) (i : grid1.Coords) (c : Fin 8) (k : Fin 3) (p : Fin 2) :
    FVec F S1x32x96 .bf16 :=
  shapeCast S1x32x96 (truncf .bf16 ((![accRe, accIm] : Fin 2 → _) p (aRows A i) (xRow X i c 0) (xRow X i c 1) k) bitsLt_bf16_f32)
    shapeCasts_S32x96_S1x32x96

/-- One store. -/
def strip (X : Vec F S100x256x256 .f32) (A : Vec F S96x30x96 .f32) (i : grid1.Coords) (c : Fin 8) (k : Fin 3) (p : Fin 2) :
    View.Piece (Elt F) S2x384x256 .bf16 :=
  ⟨Rect.unit (s := S2x384x256) (stripAt c k p) S1x32x96.size (stripAt_inb c k p), stripPay X A i c k p⟩

/-- A chunk's stores, last first. -/
def chunkStrips (X : Vec F S100x256x256 .f32) (A : Vec F S96x30x96 .f32) (i : grid1.Coords) (c : Fin 8) :
    List (View.Piece (Elt F) S2x384x256 .bf16) :=
  [strip X A i c 2 1, strip X A i c 2 0, strip X A i c 1 1, strip X A i c 1 0, strip X A i c 0 1, strip X A i c 0 0]

/-- All the stores of the sums, last first. -/
def strips (X : Vec F S100x256x256 .f32) (A : Vec F S96x30x96 .f32) (i : grid1.Coords) :
    List (View.Piece (Elt F) S2x384x256 .bf16) :=
  chunkStrips X A i 7 ++ (chunkStrips X A i 6 ++ (chunkStrips X A i 5 ++ (chunkStrips X A i 4 ++
    (chunkStrips X A i 3 ++ (chunkStrips X A i 2 ++ (chunkStrips X A i 1 ++ chunkStrips X A i 0))))))

variable (c : Dev nD) (i : grid1.Coords)
  (arg1 : Memref sig .tc .vmem S100x256x256 .f32) (harg1 : arg1.IsWhole) (arg2 : Memref sig .tc .vmem S96x30x96 .f32) (harg2 : arg2.IsWhole)
  (arg3 : Memref sig .tc .vmem S128x384 .bf16) (harg3 : arg3.IsWhole) (arg4 : Memref sig .tc .vmem S256x192 .bf16) (harg4 : arg4.IsWhole)
  (arg5 : Memref sig .tc .vmem S2x1x128x192 .f32) (harg5 : arg5.IsWhole) (arg6 : Memref sig .tc .vmem S2x384x256 .bf16) (harg6 : arg6.IsWhole)
  (x0 : Vec F S100x256x256 .f32) (x1 : Vec F S96x30x96 .f32) (x2 : Vec F S128x384 .bf16) (x3 : Vec F S256x192 .bf16) (xs0 : Vec F S2x384x256 .bf16)

/-- A later point's stores into the scratch are these. -/
theorem later_strips : kernelRun1_B.sl.HS0_48 c i arg1 harg1 arg2 harg2 x0 x1
    = strips (arg1.view.read (Elt F) (harg1.unread x0)) (arg2.view.read (Elt F) (harg2.unread x1)) i := rfl

/-- The first point's stores into the scratch are these, after a fill with zero. -/
theorem first_strips : kernelRun1_A.sl.HS0_49 c i arg1 harg1 arg2 harg2 x0 x1
    = strips (arg1.view.read (Elt F) (harg1.unread x0)) (arg2.view.read (Elt F) (harg2.unread x1)) i
      ++ [⟨Rect.unit (s := S2x384x256) ![0, 0, 0] S2x384x256.size inb_S2x384x256_S2x384x256_0_0_0, k1_pay2⟩] := rfl

omit [FloatOps F] in
/-- Whatever stores are made, if each stores `g` on its rectangle then after them an index of some rectangle reads `g` and
    any other what was there before. -/
theorem read_writes_of_pieces {s : Shape} {e : EltTy} (v : View sig .tc .vmem s e) (f : v.ty.Contents (Elt F)) (g : s.Idx → Elt F e) (y : s.Idx) :
    ∀ L : List (View.Piece (Elt F) s e), (∀ p ∈ L, ∀ j, p.2 j = g (p.1.emb j)) →
      (v.read (Elt F) (v.writes (Elt F) f L) y = g y ∧ ∃ p ∈ L, y ∈ p.1.set)
        ∨ (v.read (Elt F) (v.writes (Elt F) f L) y = v.read (Elt F) f y ∧ ∀ p ∈ L, y ∉ p.1.set)
  | [], _ => Or.inr ⟨rfl, fun _ h => absurd h List.not_mem_nil⟩
  | p :: L, h => by
    by_cases hy : y ∈ p.1.set
    · obtain ⟨r, w⟩ := p
      obtain ⟨x, rfl⟩ : ∃ x, r.emb x = y := r.exists_idx_of_mem hy
      refine Or.inl ⟨?_, ⟨r, w⟩, List.mem_cons_self, hy⟩
      rw [View.read_writes_cons_emb]
      exact h ⟨r, w⟩ List.mem_cons_self x
    · have hy' : y ∉ Finset.univ.map p.1.emb := by rwa [Rect.map_emb_univ]
      have hr : v.read (Elt F) (v.writes (Elt F) f (p :: L)) y = v.read (Elt F) (v.writes (Elt F) f L) y := by
        rw [View.writes_cons, View.read_slice_write_of_not_mem p.1 _ _ _ hy']
      rcases read_writes_of_pieces v f g y L fun q hq => h q (List.mem_cons_of_mem _ hq) with ⟨h1, q, hq, h2⟩ | ⟨h1, h2⟩
      · exact Or.inl ⟨hr.trans h1, q, List.mem_cons_of_mem _ hq, h2⟩
      · refine Or.inr ⟨hr.trans h1, fun q hq => ?_⟩
        rcases List.mem_cons.mp hq with rfl | hq
        · exact hy
        · exact h2 q hq

/-- What the scratch holds after a point: under the stored lanes the chunks' sums, elsewhere zero. -/
def scratchVal (X : Vec F S100x256x256 .f32) (A : Vec F S96x30x96 .f32) (i : grid1.Coords) : Vec F S2x384x256 .bf16 := fun y =>
  if h : (y 2).val % 128 < 96 then
    stripPay X A i ⟨4 * (y 0).val + (y 1).val % 128 / 32, by have h0 : (y 0).val < 2 := (y 0).isLt; omega⟩
      ⟨(y 1).val / 128, by have h1 : (y 1).val < 384 := (y 1).isLt; omega⟩
      ⟨(y 2).val / 128, by have h2 : (y 2).val < 256 := (y 2).isLt; omega⟩
      (ix3 ⟨0, by decide⟩ ⟨(y 1).val % 32, Nat.mod_lt _ (by decide)⟩ ⟨(y 2).val % 128, h⟩)
  else Scalar.ofBits .bf16 0x0000#16

variable (X : Vec F S100x256x256 .f32) (A : Vec F S96x30x96 .f32)

/-- A property of some chunk, kernel plane or half, written out. -/
theorem some_chunk (P : Fin 8 → Prop) : (P 7 ∨ P 6 ∨ P 5 ∨ P 4 ∨ P 3 ∨ P 2 ∨ P 1 ∨ P 0) ↔ ∃ c, P c := by
  constructor
  · rintro (h | h | h | h | h | h | h | h) <;> exact ⟨_, h⟩
  · rintro ⟨c, h⟩
    fin_cases c <;> repeat first | exact h | exact Or.inl h | apply Or.inr

theorem some_plane (P : Fin 3 → Fin 2 → Prop) : (P 2 1 ∨ P 2 0 ∨ P 1 1 ∨ P 1 0 ∨ P 0 1 ∨ P 0 0) ↔ ∃ k p, P k p := by
  constructor
  · rintro (h | h | h | h | h | h) <;> exact ⟨_, _, h⟩
  · rintro ⟨k, p, h⟩
    fin_cases k <;> fin_cases p <;> repeat first | exact h | exact Or.inl h | apply Or.inr

/-- Every store is one of the strips. -/
theorem mem_strips {q : View.Piece (Elt F) S2x384x256 .bf16} :
    q ∈ strips X A i ↔ ∃ c k p, q = strip X A i c k p := by
  have hc : ∀ c, q ∈ chunkStrips X A i c ↔ ∃ k p, q = strip X A i c k p := by
    intro c
    rw [← some_plane fun k p => q = strip X A i c k p]
    simp only [chunkStrips, List.mem_cons, List.not_mem_nil, or_false]
  rw [← some_chunk fun c => ∃ k p, q = strip X A i c k p]
  simp only [strips, List.mem_append, hc]

theorem stripPay_congr {c c' : Fin 8} {k k' : Fin 3} {p p' : Fin 2} {j j' : S1x32x96.Idx} (hc : c = c') (hk : k = k') (hp : p = p')
    (hj : j = j') : stripPay X A i c k p j = stripPay X A i c' k' p' j' := by subst hc hk hp hj; rfl

/-- Each strip stores the scratch's value on its rectangle. -/
theorem strip_val (c : Fin 8) (k : Fin 3) (p : Fin 2) (j : S1x32x96.Idx) :
    stripPay X A i c k p j = scratchVal X A i ((Rect.unit (s := S2x384x256) (stripAt c k p) S1x32x96.size (stripAt_inb c k p)).emb j) := by
  have j0 : (j 0).val < 1 := (j 0).isLt
  have j1 : (j 1).val < 32 := (j 1).isLt
  have j2 : (j 2).val < 96 := (j 2).isLt
  have e0 : ((Rect.unit (s := S2x384x256) (stripAt c k p) S1x32x96.size (stripAt_inb c k p)).emb j 0).val = c.val / 4 + 1 * (j 0).val := rfl
  have e1 : ((Rect.unit (s := S2x384x256) (stripAt c k p) S1x32x96.size (stripAt_inb c k p)).emb j 1).val = 128 * k.val + 32 * (c.val % 4) + 1 * (j 1).val := rfl
  have e2 : ((Rect.unit (s := S2x384x256) (stripAt c k p) S1x32x96.size (stripAt_inb c k p)).emb j 2).val = 128 * p.val + 1 * (j 2).val := rfl
  have hc := c.isLt
  rw [scratchVal, dif_pos (by omega)]
  refine stripPay_congr i X A (Fin.ext ?_) (Fin.ext ?_) (Fin.ext ?_) (funext fun a => ?_)
  · show c.val = 4 * _ + _ % 128 / 32
    rw [e0, e1]; omega
  · show k.val = _ / 128
    rw [e1]; omega
  · show p.val = _ / 128
    rw [e2]; omega
  · match a with
    | ⟨0, _⟩ => apply Fin.ext; show (j 0).val = 0; omega
    | ⟨1, _⟩ => apply Fin.ext; show (j 1).val = _ % 32; rw [e1]; omega
    | ⟨2, _⟩ => apply Fin.ext; show (j 2).val = _ % 128; rw [e2]; omega

/-- The strips hold exactly the stored lanes. -/
theorem mem_strip_of_lane (y : S2x384x256.Idx) (h : (y 2).val % 128 < 96) :
    ∃ q ∈ strips X A i, y ∈ q.1.set := by
  have h0 : (y 0).val < 2 := (y 0).isLt
  have h1 : (y 1).val < 384 := (y 1).isLt
  have h2 : (y 2).val < 256 := (y 2).isLt
  refine ⟨_, (mem_strips i X A).mpr ⟨⟨4 * (y 0).val + (y 1).val % 128 / 32, by omega⟩, ⟨(y 1).val / 128, by omega⟩, ⟨(y 2).val / 128, by omega⟩, rfl⟩, ?_⟩
  rw [strip, Rect.mem_set_unit]
  intro a
  match a with
  | ⟨0, _⟩ => show (4 * (y 0).val + (y 1).val % 128 / 32) / 4 ≤ (y 0).val ∧ (y 0).val < (4 * (y 0).val + (y 1).val % 128 / 32) / 4 + 1; omega
  | ⟨1, _⟩ => show 128 * ((y 1).val / 128) + 32 * ((4 * (y 0).val + (y 1).val % 128 / 32) % 4) ≤ (y 1).val ∧ (y 1).val < 128 * ((y 1).val / 128) + 32 * ((4 * (y 0).val + (y 1).val % 128 / 32) % 4) + 32; omega
  | ⟨2, _⟩ => show 128 * ((y 2).val / 128) ≤ (y 2).val ∧ (y 2).val < 128 * ((y 2).val / 128) + 96; omega

/-- After the strips, a scratch that held zero off the stored lanes reads the scratch's value. -/
theorem read_strips (v : View sig .tc .vmem S2x384x256 .bf16) (f : v.ty.Contents (Elt F))
    (hf : ∀ y : S2x384x256.Idx, ¬(y 2).val % 128 < 96 → v.read (Elt F) f y = Scalar.ofBits .bf16 0x0000#16) :
    v.read (Elt F) (v.writes (Elt F) f (strips X A i)) = scratchVal X A i := by
  funext y
  have hp : ∀ q ∈ strips X A i, ∀ j, q.2 j = scratchVal X A i (q.1.emb j) := by
    intro q hq j
    obtain ⟨c, k, p, rfl⟩ := (mem_strips i X A).mp hq
    exact strip_val i X A c k p j
  rcases read_writes_of_pieces v f (scratchVal X A i) y (strips X A i) hp with ⟨h, _⟩ | ⟨h, h'⟩
  · exact h
  · have hl : ¬(y 2).val % 128 < 96 := fun hl => by
      obtain ⟨q, hq, hy⟩ := mem_strip_of_lane i X A y hl
      exact h' q hq hy
    rw [h, hf y hl, scratchVal, dif_neg hl]

end Cert.Exact

end
-- ==== Proof.Exact.Conv.lean ====
/-
The convolution call: what the output block and the carried scratch hold after each point of the grid, and the body's
obligation towards the pipeline.
-/
module

public import proofs.«01_k».proof.Proof.Exact.ConvLater

@[expose] public section

set_option maxRecDepth 16384

noncomputable section

namespace Cert.Exact

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (c : Dev nD) (i : grid1.Coords)
  (arg1 : Memref sig .tc .vmem S100x256x256 .f32) (harg1 : arg1.IsWhole) (arg2 : Memref sig .tc .vmem S96x30x96 .f32) (harg2 : arg2.IsWhole)
  (arg3 : Memref sig .tc .vmem S128x384 .bf16) (harg3 : arg3.IsWhole) (arg4 : Memref sig .tc .vmem S256x192 .bf16) (harg4 : arg4.IsWhole)
  (arg5 : Memref sig .tc .vmem S2x1x128x192 .f32) (harg5 : arg5.IsWhole) (arg6 : Memref sig .tc .vmem S2x384x256 .bf16) (harg6 : arg6.IsWhole)

/-- At the first point the two stores into the output tile its block. -/
theorem cover1_A_4 (hc0 : cond1_0 i)
    (x0 : Vec F S100x256x256 .f32) (x1 : Vec F S96x30x96 .f32) (x2 : Vec F S128x384 .bf16) (x3 : Vec F S256x192 .bf16) (y : S2x1x128x192.Idx) :
    ∃ pc ∈ (kernelRun1_A c i arg1 harg1 arg2 harg2 arg3 harg3 arg4 harg4 arg5 harg5 arg6 harg6 hc0 x0 x1 x2 x3).1, y ∈ pc.1.set :=
  View.cover_of_tiledL (kernelRun1_A c i arg1 harg1 arg2 harg2 arg3 harg3 arg4 harg4 arg5 harg5 arg6 harg6 hc0 x0 x1 x2 x3).1 S1x1x128x192.size (by sl_kernel_rfl) y

/-- What the first point leaves in the output block. -/
def out1_A_4 (hc0 : cond1_0 i)
    (x0 : Vec F S100x256x256 .f32) (x1 : Vec F S96x30x96 .f32) (x2 : Vec F S128x384 .bf16) (x3 : Vec F S256x192 .bf16) : Vec F S2x1x128x192 .f32 :=
  VO1_4.read (Elt F) (VO1_4.writes (Elt F) VO1_4.junk (kernelRun1_A c i arg1 harg1 arg2 harg2 arg3 harg3 arg4 harg4 arg5 harg5 arg6 harg6 hc0 x0 x1 x2 x3).1)

/-- At the first point the stores into the scratch cover it, the first of them being of the whole scratch. -/
theorem scover1_A_0 (hc0 : cond1_0 i)
    (x0 : Vec F S100x256x256 .f32) (x1 : Vec F S96x30x96 .f32) (x2 : Vec F S128x384 .bf16) (x3 : Vec F S256x192 .bf16) (y : S2x384x256.Idx) :
    ∃ pc ∈ (kernelRun1_A c i arg1 harg1 arg2 harg2 arg3 harg3 arg4 harg4 arg5 harg5 arg6 harg6 hc0 x0 x1 x2 x3).2.1, y ∈ pc.1.set :=
  View.cover_of_wholeMem (kernelRun1_A c i arg1 harg1 arg2 harg2 arg3 harg3 arg4 harg4 arg5 harg5 arg6 harg6 hc0 x0 x1 x2 x3).2.1 (by sl_whole_mem) y

/-- What the first point leaves in the scratch. -/
def sout1_A_0 (hc0 : cond1_0 i)
    (x0 : Vec F S100x256x256 .f32) (x1 : Vec F S96x30x96 .f32) (x2 : Vec F S128x384 .bf16) (x3 : Vec F S256x192 .bf16) : Vec F S2x384x256 .bf16 :=
  VS1_0.read (Elt F) (VS1_0.writes (Elt F) VS1_0.junk (kernelRun1_A c i arg1 harg1 arg2 harg2 arg3 harg3 arg4 harg4 arg5 harg5 arg6 harg6 hc0 x0 x1 x2 x3).2.1)

/-- At a later point the two stores into the output tile its block. -/
theorem cover1_B_4 (hc0 : ¬cond1_0 i)
    (x0 : Vec F S100x256x256 .f32) (x1 : Vec F S96x30x96 .f32) (x2 : Vec F S128x384 .bf16) (x3 : Vec F S256x192 .bf16) (xs0 : Vec F S2x384x256 .bf16) (y : S2x1x128x192.Idx) :
    ∃ pc ∈ (kernelRun1_B c i arg1 harg1 arg2 harg2 arg3 harg3 arg4 harg4 arg5 harg5 arg6 harg6 hc0 x0 x1 x2 x3 xs0).1, y ∈ pc.1.set :=
  View.cover_of_tiledL (kernelRun1_B c i arg1 harg1 arg2 harg2 arg3 harg3 arg4 harg4 arg5 harg5 arg6 harg6 hc0 x0 x1 x2 x3 xs0).1 S1x1x128x192.size (by sl_kernel_rfl) y

/-- What a later point leaves in the output block. -/
def out1_B_4 (hc0 : ¬cond1_0 i)
    (x0 : Vec F S100x256x256 .f32) (x1 : Vec F S96x30x96 .f32) (x2 : Vec F S128x384 .bf16) (x3 : Vec F S256x192 .bf16) (xs0 : Vec F S2x384x256 .bf16) : Vec F S2x1x128x192 .f32 :=
  VO1_4.read (Elt F) (VO1_4.writes (Elt F) VO1_4.junk (kernelRun1_B c i arg1 harg1 arg2 harg2 arg3 harg3 arg4 harg4 arg5 harg5 arg6 harg6 hc0 x0 x1 x2 x3 xs0).1)

/-- What a later point leaves in the scratch: its stores over what was there. -/
def sout1_B_0 (hc0 : ¬cond1_0 i)
    (x0 : Vec F S100x256x256 .f32) (x1 : Vec F S96x30x96 .f32) (x2 : Vec F S128x384 .bf16) (x3 : Vec F S256x192 .bf16) (xs0 : Vec F S2x384x256 .bf16) : Vec F S2x384x256 .bf16 :=
  arg6.view.read (Elt F) (arg6.view.writes (Elt F) (harg6.unread xs0) (kernelRun1_B c i arg1 harg1 arg2 harg2 arg3 harg3 arg4 harg4 arg5 harg5 arg6 harg6 hc0 x0 x1 x2 x3 xs0).2.1)

end

variable (V : (c : Dev nD) → (b : Ref sig .tc) → Buf (Elt F) ((c : Thread nD τ).loc b))

/-- The output block and the scratch after the point at position `n`: the first point starts from nothing, a later one from
    the scratch of the point before. -/
def outsAt1 (c : Dev nD) : (n : ℕ) → n < cfg1.N → Vec F S2x1x128x192 .f32 × Vec F S2x384x256 .bf16
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩))
  | n + 1, hn =>
    if h0 : (n + 1) % 96 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩))
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- `outsAt1` at the first point. -/
theorem outsAt1_A (c : Dev nD) (t : Fin cfg1.N) (h0 : t.val % 96 = 0) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (iblk1 V c 0 t) (iblk1 V c 1 t) (iblk1 V c 2 t) (iblk1 V c 3 t)) := by
  obtain ⟨n, hn⟩ := t
  cases n with
  | zero => exact rfl
  | succ n => exact (dif_pos h0).trans rfl

/-- `outsAt1` at a later point, over the scratch of the point before. -/
theorem outsAt1_B (c : Dev nD) (t : Fin cfg1.N) (h0 : ¬t.val % 96 = 0) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- What holds between points: before the first, what the launch hands over; afterwards the scratch at what the last point left. -/
def PhiS (c : Dev nD) : (n : ℕ) → n ≤ cfg1.N → sProp 𝕄
  | 0, _ => Pipeline.ΦA spec1 c
  | n + 1, hn => iprop(iprop(others c ∗ owns (c : Thread nD τ) scM1_0 fullShare ((outsAt1 V c n hn).2)) ∗ (∃ r, prngReg c r))

/-- Before the first point. -/
theorem PhiS_zero (c : Dev nD) (n : ℕ) (h : n ≤ cfg1.N) (hz : n = 0) : PhiS V c n h = Pipeline.ΦA spec1 c := by
  subst hz; rfl

/-- After the point at position `n`. -/
theorem PhiS_succ (c : Dev nD) (n : ℕ) (hn : n < cfg1.N) :
    PhiS V c (n + 1) hn = iprop(iprop(others c ∗ owns (c : Thread nD τ) scM1_0 fullShare ((outsAt1 V c n hn).2)) ∗ (∃ r, prngReg c r)) := rfl

/-- Before a point that is not the first. -/
theorem PhiS_pos (c : Dev nD) (n : ℕ) (h : n ≤ cfg1.N) (hz : n ≠ 0) :
    PhiS V c n h = iprop(iprop(others c ∗ owns (c : Thread nD τ) scM1_0 fullShare ((outsAt1 V c (n - 1) (by omega)).2)) ∗ (∃ r, prngReg c r)) := by
  cases n with
  | zero => exact absurd rfl hz
  | succ n => rfl

/-- The data of the convolution call: its arrays as it finds them, each block after each point, the scratch carried. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

/-- The arrays of the call's data are the contents it is entered with. -/
theorem A_eq1 (c : Dev nD) (w : Fin cfg1.W) : (dat1 V c).A w = V c (Pipeline.arrRef spec1 w) := by
  dsimp only [dat1]

/-- What holds before point `t`, as `PhiS` at its position. -/
theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

/-- What each staging buffer holds after the body, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- What each input's staging buffer holds before the body. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is handed at point `t`. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- What the body gives back at point `t`. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 3200000 in
/-- The body takes what it is handed to what it gives back: at the first point by the run that fills the scratch, at a later
    one by the run over the scratch of the point before. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    after1_0, after1_1, after1_2, after1_3, after1_4]
  rw [show (dat1 V c).Φ t.succ = PhiS V c (t.val + 1) t.isLt from rfl, PhiS_succ]
  have hN : t.val < 96 := lt_of_lt_of_eq t.isLt (show cfg1.N = 96 from N_1)
  by_cases h0 : t.val % 96 = 0
  · by_cases hz : t.val = 0
    · rw [PhiS_castSucc V c t, PhiS_zero V c _ _ hz, PhiA1_eq]
      rw [outsAt1_A V c t h0]
      unfold out1_A_4 sout1_A_0; (try dsimp only)
      iintro ⟨⟨⟨HR, HS0⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (iblk1 V c 0 t) (iblk1 V c 1 t) (iblk1 V c 2 t) (iblk1 V c 3 t)).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover1_A_0 c _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_A_4 c _ _ _ _ _ _ _ _ _ _ _ _ _ _ _ _ _ _)
    · exfalso; have hN : t.val < 96 := lt_of_lt_of_eq t.isLt (show cfg1.N = 96 from N_1); omega
  · by_cases hz : t.val = 0
    · exfalso; have hN : t.val < 96 := lt_of_lt_of_eq t.isLt (show cfg1.N = 96 from N_1); omega
    · rw [PhiS_castSucc V c t, PhiS_pos V c _ _ hz]
      rw [outsAt1_B V c t h0]
      unfold out1_B_4 sout1_B_0; (try dsimp only)
      iintro ⟨⟨⟨HR, HS0⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, HS0⟩
      isplitl [HR HS0 Hg]
      · isplitl [HR HS0]
        · isplitl [HR]; · iexact HR
          unfold owns; iexists _; isplitr
          swap; · iexact HS0
          ipureintro; rfl
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_B_4 c _ _ _ _ _ _ _ _ _ _ _ _ _ _ _ _ _ _ _)

/-- The body the pipeline calls at point `t` is the body on that point's staging buffers. -/
theorem defs₀_row1 (t : Fin cfg1.N) :
    defs₀ (F := F) .tc cfg1.body (cfg1.bodyArgs t (cfg1.slots t)) = bodyAt1 t := by
  unfold defs₀; rw [Defs.onTc_tc]

/-- The obligation of the convolution's body, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the call is what holds before its first point. -/
theorem hin (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the scratch's contents may be forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HR, HS0⟩, Hg⟩
  isplitl [HR HS0]
  · isplitl [HR]; · iexact HR
    iexists _; iexact HS0
  iexact Hg

/-- After the last point the call gives back what the launch handed it. -/
theorem hout (c : Dev nD) : (dat1 V c).Φ (Fin.last cfg1.N) ⊢ Pipeline.ΦA spec1 c :=
  Phi_out V c _ (by rw [Fin.val_last]; have : cfg1.N = 96 := N_1; omega)

end Cert.Exact

end
-- ==== Proof.Exact.Points.lean ====
/-
What the convolution's region computes at a point, in closed form: the scratch holds the chunks' sums of that point
alone, and the output block is two matrix products of it.
-/
module

public import proofs.«01_k».proof.Proof.Exact.Strips
public import proofs.«01_k».proof.Proof.Exact.Conv

@[expose] public section

set_option maxRecDepth 16384

noncomputable section

namespace Cert.Exact

open Idealize.ShloMosaic Idealize.ShloMosaic.TcCoe
open Cert.KernelIdeal Cert.KernelIdeal.Gen Idealize.ShloMosaic.ValueIdx

variable {F : FTy → Type} [FloatOps F]

theorem plane_inb (b : Fin 2) : ∀ a : Fin 3, (![b.val, 0, 0] : Fin 3 → ℕ) a + S1x384x256.size a ≤ S2x384x256.size a := by
  revert b; decide

/-- One image's part of the output block: the weights `w` times plane `b` of the scratch `Y`, times the inverse table `z`. -/
def outPlane (w : Vec F S128x384 .bf16) (Y : Vec F S2x384x256 .bf16) (z : Vec F S256x192 .bf16) (b : Fin 2) : Vec F S1x1x128x192 .f32 :=
  k1_pay477 w (View.ld Y (Rect.unit (s := S2x384x256) ![b.val, 0, 0] S1x384x256.size (plane_inb b))) z

/-- The output block, image by image. -/
def outVal (w : Vec F S128x384 .bf16) (Y : Vec F S2x384x256 .bf16) (z : Vec F S256x192 .bf16) : Vec F S2x1x128x192 .f32 := fun y =>
  outPlane w Y z (y 0) (ix4 ⟨0, by decide⟩ ⟨0, by decide⟩ (y 2) (y 3))

/-- The two stores into the output block, last first. -/
def outPieces (w : Vec F S128x384 .bf16) (Y : Vec F S2x384x256 .bf16) (z : Vec F S256x192 .bf16) : List (View.Piece (Elt F) S2x1x128x192 .f32) :=
  [⟨Rect.unit (s := S2x1x128x192) ![1, 0, 0, 0] S1x1x128x192.size inb_S2x1x128x192_S1x1x128x192_1_0_0_0, outPlane w Y z 1⟩,
   ⟨Rect.unit (s := S2x1x128x192) ![0, 0, 0, 0] S1x1x128x192.size inb_S2x1x128x192_S1x1x128x192_0_0_0_0, outPlane w Y z 0⟩]

section
variable (c : Dev nD) (i : grid1.Coords)
  (arg1 : Memref sig .tc .vmem S100x256x256 .f32) (harg1 : arg1.IsWhole) (arg2 : Memref sig .tc .vmem S96x30x96 .f32) (harg2 : arg2.IsWhole)
  (arg3 : Memref sig .tc .vmem S128x384 .bf16) (harg3 : arg3.IsWhole) (arg4 : Memref sig .tc .vmem S256x192 .bf16) (harg4 : arg4.IsWhole)
  (arg5 : Memref sig .tc .vmem S2x1x128x192 .f32) (harg5 : arg5.IsWhole) (arg6 : Memref sig .tc .vmem S2x384x256 .bf16) (harg6 : arg6.IsWhole)
  (x0 : Vec F S100x256x256 .f32) (x1 : Vec F S96x30x96 .f32) (x2 : Vec F S128x384 .bf16) (x3 : Vec F S256x192 .bf16) (xs0 : Vec F S2x384x256 .bf16)

/-- The first point's stores over any scratch leave its closed form. -/
theorem read_first (v : View sig .tc .vmem S2x384x256 .bf16) (f : v.ty.Contents (Elt F)) :
    v.read (Elt F) (v.writes (Elt F) f (kernelRun1_A.sl.HS0_49 c i arg1 harg1 arg2 harg2 x0 x1)) = scratchVal x0 x1 i := by
  rw [first_strips, harg1.read_unread, harg2.read_unread, View.writes_append]
  refine read_strips i x0 x1 v _ fun y _ => ?_
  rcases read_writes_of_pieces v f (fun _ => Scalar.ofBits .bf16 0x0000#16) y
    [⟨Rect.unit (s := S2x384x256) ![0, 0, 0] S2x384x256.size inb_S2x384x256_S2x384x256_0_0_0, k1_pay2⟩]
    (fun p hp j => by obtain rfl := List.mem_singleton.mp hp; rfl) with ⟨h, _⟩ | ⟨_, h⟩
  · exact h
  · refine absurd ?_ (h _ List.mem_cons_self)
    rw [Rect.mem_set_unit]
    intro a
    match a with
    | ⟨0, _⟩ => exact ⟨Nat.zero_le _, (by simpa using (y 0).isLt)⟩
    | ⟨1, _⟩ => exact ⟨Nat.zero_le _, (by simpa using (y 1).isLt)⟩
    | ⟨2, _⟩ => exact ⟨Nat.zero_le _, (by simpa using (y 2).isLt)⟩

/-- A later point's stores, over a scratch that holds zero off the stored lanes, leave its closed form. -/
theorem read_later (hz : ∀ y : S2x384x256.Idx, ¬(y 2).val % 128 < 96 → xs0 y = Scalar.ofBits .bf16 0x0000#16) :
    arg6.view.read (Elt F) (arg6.view.writes (Elt F) (harg6.unread xs0) (kernelRun1_B.sl.HS0_48 c i arg1 harg1 arg2 harg2 x0 x1))
      = scratchVal x0 x1 i := by
  rw [later_strips, harg1.read_unread, harg2.read_unread]
  refine read_strips i x0 x1 _ _ fun y hy => ?_
  rw [harg6.read_unread]
  exact hz y hy

/-- Two stores, one for each image, of the products of weights, scratch and table leave the output block's closed form. -/
theorem read_out (v : View sig .tc .vmem S2x1x128x192 .f32) (f : v.ty.Contents (Elt F)) (w : Vec F S128x384 .bf16)
    (Y : Vec F S2x384x256 .bf16) (z : Vec F S256x192 .bf16) :
    v.read (Elt F) (v.writes (Elt F) f (outPieces w Y z)) = outVal w Y z := by
  have hj : ∀ (b : Fin 2) (inb : ∀ a : Fin 4, (![b.val, 0, 0, 0] : Fin 4 → ℕ) a + S1x1x128x192.size a ≤ S2x1x128x192.size a) (j : S1x1x128x192.Idx),
      outPlane w Y z b j = outVal w Y z ((Rect.unit (s := S2x1x128x192) ![b.val, 0, 0, 0] S1x1x128x192.size inb).emb j) := by
    intro b inb j
    have j0 : (j 0).val < 1 := (j 0).isLt
    have j1 : (j 1).val < 1 := (j 1).isLt
    have e0 : (Rect.unit (s := S2x1x128x192) ![b.val, 0, 0, 0] S1x1x128x192.size inb).emb j 0 = b :=
      Fin.ext (show b.val + 1 * (j 0).val = b.val by omega)
    have ej : j = ix4 ⟨0, by decide⟩ ⟨0, by decide⟩
        ((Rect.unit (s := S2x1x128x192) ![b.val, 0, 0, 0] S1x1x128x192.size inb).emb j 2)
        ((Rect.unit (s := S2x1x128x192) ![b.val, 0, 0, 0] S1x1x128x192.size inb).emb j 3) := by
      funext a
      match a with
      | ⟨0, _⟩ => exact Fin.ext (show (j 0).val = 0 by omega)
      | ⟨1, _⟩ => exact Fin.ext (show (j 1).val = 0 by omega)
      | ⟨2, _⟩ => exact Fin.ext (show (j 2).val = 0 + 1 * (j 2).val by omega)
      | ⟨3, _⟩ => exact Fin.ext (show (j 3).val = 0 + 1 * (j 3).val by omega)
    exact congrArg₂ (fun b' j' => outPlane w Y z b' j') e0.symm ej
  funext y
  rcases read_writes_of_pieces v f (outVal w Y z) y (outPieces w Y z) (by
    intro p hp
    rcases List.mem_cons.mp hp with rfl | hp
    · exact hj 1 inb_S2x1x128x192_S1x1x128x192_1_0_0_0
    · obtain rfl := List.mem_singleton.mp hp; exact hj 0 inb_S2x1x128x192_S1x1x128x192_0_0_0_0) with ⟨h, _⟩ | ⟨_, h⟩
  · exact h
  · exfalso
    have y0 : (y 0).val < 2 := (y 0).isLt
    have y1 : (y 1).val < 1 := (y 1).isLt
    have y2 : (y 2).val < 128 := (y 2).isLt
    have y3 : (y 3).val < 192 := (y 3).isLt
    have h1 := h _ List.mem_cons_self
    have h2 := h _ (List.mem_cons_of_mem _ List.mem_cons_self)
    rw [Rect.mem_set_unit] at h1 h2
    by_cases hy : (y 0).val = 1
    · refine h1 fun a => ?_
      match a with
      | ⟨0, _⟩ => show 1 ≤ (y 0).val ∧ (y 0).val < 1 + 1; omega
      | ⟨1, _⟩ => show 0 ≤ (y 1).val ∧ (y 1).val < 0 + 1; omega
      | ⟨2, _⟩ => show 0 ≤ (y 2).val ∧ (y 2).val < 0 + 128; omega
      | ⟨3, _⟩ => show 0 ≤ (y 3).val ∧ (y 3).val < 0 + 192; omega
    · refine h2 fun a => ?_
      match a with
      | ⟨0, _⟩ => show 0 ≤ (y 0).val ∧ (y 0).val < 0 + 1; omega
      | ⟨1, _⟩ => show 0 ≤ (y 1).val ∧ (y 1).val < 0 + 1; omega
      | ⟨2, _⟩ => show 0 ≤ (y 2).val ∧ (y 2).val < 0 + 128; omega
      | ⟨3, _⟩ => show 0 ≤ (y 3).val ∧ (y 3).val < 0 + 192; omega

theorem ld_whole_w (w : Vec F S128x384 .bf16) :
    View.ld w (Rect.unit (s := S128x384) ![0, 0] S128x384.size inb_S128x384_S128x384_0_0) = w :=
  funext fun j => congrArg w (funext fun a => Fin.ext (by
    match a with
    | ⟨0, _⟩ => exact (show 0 + 1 * (j 0).val = (j 0).val by omega)
    | ⟨1, _⟩ => exact (show 0 + 1 * (j 1).val = (j 1).val by omega)))

theorem ld_whole_z (z : Vec F S256x192 .bf16) :
    View.ld z (Rect.unit (s := S256x192) ![0, 0] S256x192.size inb_S256x192_S256x192_0_0) = z :=
  funext fun j => congrArg z (funext fun a => Fin.ext (by
    match a with
    | ⟨0, _⟩ => exact (show 0 + 1 * (j 0).val = (j 0).val by omega)
    | ⟨1, _⟩ => exact (show 0 + 1 * (j 1).val = (j 1).val by omega)))

/-- The first point's scratch and output block. -/
theorem first_scratch (hc0 : cond1_0 i) :
    sout1_A_0 c i arg1 harg1 arg2 harg2 arg3 harg3 arg4 harg4 arg5 harg5 arg6 harg6 hc0 x0 x1 x2 x3 = scratchVal x0 x1 i :=
  read_first c i arg1 harg1 arg2 harg2 x0 x1 VS1_0 VS1_0.junk

theorem first_out (hc0 : cond1_0 i) :
    out1_A_4 c i arg1 harg1 arg2 harg2 arg3 harg3 arg4 harg4 arg5 harg5 arg6 harg6 hc0 x0 x1 x2 x3
      = outVal x2 (scratchVal x0 x1 i) x3 := by
  have h := read_out VO1_4 VO1_4.junk
    (View.ld (arg3.view.read (Elt F) (harg3.unread x2)) (Rect.unit (s := S128x384) ![0, 0] S128x384.size inb_S128x384_S128x384_0_0))
    (arg6.view.read (Elt F) (arg6.view.writes (Elt F) arg6.view.junk (kernelRun1_A.sl.HS0_49 c i arg1 harg1 arg2 harg2 x0 x1)))
    (View.ld (arg4.view.read (Elt F) (harg4.unread x3)) (Rect.unit (s := S256x192) ![0, 0] S256x192.size inb_S256x192_S256x192_0_0))
  have h' : out1_A_4 c i arg1 harg1 arg2 harg2 arg3 harg3 arg4 harg4 arg5 harg5 arg6 harg6 hc0 x0 x1 x2 x3 = _ := h
  rw [h', read_first, harg3.read_unread, harg4.read_unread, ld_whole_w, ld_whole_z]

/-- A later point's scratch and output block, over a scratch that holds zero off the stored lanes. -/
theorem later_scratch (hc0 : ¬cond1_0 i) (hz : ∀ y : S2x384x256.Idx, ¬(y 2).val % 128 < 96 → xs0 y = Scalar.ofBits .bf16 0x0000#16) :
    sout1_B_0 c i arg1 harg1 arg2 harg2 arg3 harg3 arg4 harg4 arg5 harg5 arg6 harg6 hc0 x0 x1 x2 x3 xs0 = scratchVal x0 x1 i :=
  read_later c i arg1 harg1 arg2 harg2 arg6 harg6 x0 x1 xs0 hz

theorem later_out (hc0 : ¬cond1_0 i) (hz : ∀ y : S2x384x256.Idx, ¬(y 2).val % 128 < 96 → xs0 y = Scalar.ofBits .bf16 0x0000#16) :
    out1_B_4 c i arg1 harg1 arg2 harg2 arg3 harg3 arg4 harg4 arg5 harg5 arg6 harg6 hc0 x0 x1 x2 x3 xs0
      = outVal x2 (scratchVal x0 x1 i) x3 := by
  have h := read_out VO1_4 VO1_4.junk
    (View.ld (arg3.view.read (Elt F) (harg3.unread x2)) (Rect.unit (s := S128x384) ![0, 0] S128x384.size inb_S128x384_S128x384_0_0))
    (arg6.view.read (Elt F) (arg6.view.writes (Elt F) (harg6.unread xs0) (kernelRun1_B.sl.HS0_48 c i arg1 harg1 arg2 harg2 x0 x1)))
    (View.ld (arg4.view.read (Elt F) (harg4.unread x3)) (Rect.unit (s := S256x192) ![0, 0] S256x192.size inb_S256x192_S256x192_0_0))
  have h' : out1_B_4 c i arg1 harg1 arg2 harg2 arg3 harg3 arg4 harg4 arg5 harg5 arg6 harg6 hc0 x0 x1 x2 x3 xs0 = _ := h
  rw [h', read_later c i arg1 harg1 arg2 harg2 arg6 harg6 x0 x1 xs0 hz, harg3.read_unread, harg4.read_unread, ld_whole_w, ld_whole_z]

end

variable (V : (c : Dev nD) → (b : Ref sig .tc) → Buf (Elt F) ((c : Thread nD τ).loc b))

/-- After every point the scratch and the output block are in closed form, from the arrays' blocks at that point. -/
theorem outsAt1_eq (c : Dev nD) : ∀ (n : ℕ) (hn : n < cfg1.N),
    outsAt1 V c n hn = (outVal (iblk1 V c 2 ⟨n, hn⟩) (scratchVal (iblk1 V c 0 ⟨n, hn⟩) (iblk1 V c 1 ⟨n, hn⟩) (grid1.coords ⟨n, hn⟩)) (iblk1 V c 3 ⟨n, hn⟩),
      scratchVal (iblk1 V c 0 ⟨n, hn⟩) (iblk1 V c 1 ⟨n, hn⟩) (grid1.coords ⟨n, hn⟩))
  | n, hn => by
    by_cases h0 : n % 96 = 0
    · rw [show outsAt1 V c n hn = _ from outsAt1_A V c ⟨n, hn⟩ h0, first_scratch, first_out]
    · have hz : ∀ y : S2x384x256.Idx, ¬(y 2).val % 128 < 96 →
          (outsAt1 V c (n - 1) (Nat.lt_of_le_of_lt (Nat.sub_le _ _) hn)).2 y = Scalar.ofBits .bf16 0x0000#16 := by
        intro y hy
        have : n - 1 < n := by
          rcases Nat.eq_zero_or_pos n with h | h
          · exact absurd (by rw [h]) h0
          · omega
        rw [outsAt1_eq c (n - 1) _]
        exact dif_neg hy
      rw [show outsAt1 V c n hn = _ from outsAt1_B V c ⟨n, hn⟩ h0]
      dsimp only
      rw [later_scratch (hz := hz), later_out (hz := hz)]
  termination_by n => n

end Cert.Exact

end
-- ==== Proof.Exact.ArrayConv.lean ====
/-
The array the second device call leaves, over the real numbers extended by the infinities: the sums along the
latitudes it keeps in its scratch, and the two products it makes of them.
-/
module

public import proofs.«01_k».proof.Proof.Exact.Points
public import Idealize.ShloMosaic.PureOps.Ideal
public import Idealize.ShloMosaic.Lib.Pointwise
public import Idealize.ShloMosaic.Lib.Pointwise.IndexBridge
public import Idealize.ShloMosaic.Lib.Pipeline.ValueKit

@[expose] public section

set_option maxRecDepth 16384

noncomputable section

namespace Cert.Exact

open Cert.KernelIdeal Cert.KernelIdeal.Gen
open Idealize.ShloMosaic Idealize.ShloMosaic.TcCoe
open scoped BigOperators

variable (V : (c : Dev nD) → (b : Ref sig .tc) → Buf (Elt Ideal) ((c : Thread nD τ).loc b))
  (X : FVec Ideal S100x256x256 .f32) (A : FVec Ideal S96x30x96 .f32)

/-- The real part of a spectrum at row `g + d`, plane `q`, frequency `f`. -/
def reAt (g : Fin 96) (q : Fin 256) (f : Fin 96) (d : Fin 5) : EReal := X (ix3 ⟨g.val + d.val, by omega⟩ q ⟨f.val, by omega⟩)
/-- Its imaginary part. -/
def imAt (g : Fin 96) (q : Fin 256) (f : Fin 96) (d : Fin 5) : EReal := X (ix3 ⟨g.val + d.val, by omega⟩ q ⟨128 + f.val, by omega⟩)
/-- Kernel plane `k`'s coefficient of row `g`, `d` rows down, at frequency `f`: cosine part (`p = 0`) or sine part (`p = 1`). -/
def coefAt (g : Fin 96) (k : Fin 3) (p : Fin 2) (f : Fin 96) (d : Fin 5) : EReal := A (ix3 g (aIx k d p) f)

/-- The sums over the five rows: the real part (`p = 0`) and the imaginary part (`p = 1`), added up in the kernel's order. -/
def sumAt (g : Fin 96) (q : Fin 256) (k : Fin 3) (f : Fin 96) (p : Fin 2) : EReal :=
  if p = 0 then List.foldl (fun acc d => acc + coefAt A g k 0 f d * reAt X g q f d - coefAt A g k 1 f d * imAt X g q f d) 0 [0, 1, 2, 3, 4]
  else List.foldl (fun acc d => acc + coefAt A g k 0 f d * imAt X g q f d + coefAt A g k 1 f d * reAt X g q f d) 0 [0, 1, 2, 3, 4]

/-- An element of the image row a chunk reads. -/
theorem xRow_apply (i : grid1.Coords) (c : Fin 8) (p : Fin 2) (d : Fin 5) (r : Fin 32) (f : Fin 96) :
    xRow X i c p d (ix2 r f)
      = X (ix3 ⟨(i 0).val + d.val, by have h : (i 0).val < 96 := (i 0).isLt; omega⟩ ⟨32 * c.val + r.val, by omega⟩ ⟨128 * p.val + f.val, by omega⟩) := by
  unfold xRow
  rw [ix2_eq_valueIdx, ValueIdx.shapeCast_1ab_ab_apply]
  refine congrArg X (funext fun a => Fin.ext ?_)
  refine (LoadRect.idx_apply _ _ a).trans ?_
  have e := congrFun (rowAt_eq i (32 * c.val) (128 * p.val) d) a
  match a with
  | ⟨0, _⟩ => exact congrArg (· + 1 * 0) e
  | ⟨1, _⟩ => exact (congrArg (· + 1 * r.val) e).trans (by simp)
  | ⟨2, _⟩ => exact (congrArg (· + 1 * f.val) e).trans (by simp)

/-- An element of a coefficient row. -/
theorem aRow_apply (i : grid1.Coords) (n : Fin 30) (r : Fin 32) (f : Fin 96) :
    aRow (aRows A i) n (ix2 r f) = A (ix3 (i 0) n f) := by
  unfold aRow aRows
  rw [ix2_eq_valueIdx, ValueIdx.broadcastTo_1b_ab_apply, ValueIdx.shapeCast_a_1a_apply, ValueIdx.shapeCast_1a_a_apply,
    ValueIdx.slice2_axis0_apply n.val _ _ 0 f n (by simp), ValueIdx.shapeCast_1ab_ab_apply]
  refine congrArg A (funext fun a => Fin.ext ?_)
  refine (LoadRect.idx_apply _ _ a).trans ?_
  have e := congrFun (k1_off1_eq i) a
  match a with
  | ⟨0, _⟩ => exact congrArg (· + 1 * 0) e
  | ⟨1, _⟩ => exact (congrArg (· + 1 * n.val) e).trans (by simp)
  | ⟨2, _⟩ => exact (congrArg (· + 1 * f.val) e).trans (by simp)

/-- What a chunk stores, at an element. -/
theorem stripPay_apply (i : grid1.Coords) (c : Fin 8) (k : Fin 3) (p : Fin 2) (r : Fin 32) (f : Fin 96) :
    stripPay (F := Ideal) X A i c k p (ix3 0 r f) = sumAt X A (i 0) ⟨32 * c.val + r.val, by omega⟩ k f p := by
  unfold stripPay
  rw [ix3_eq_valueIdx, ValueIdx.shapeCast_ab_1ab_apply, ← ix2_eq_valueIdx]
  unfold sumAt coefAt reAt imAt
  fin_cases p
  · pointwise [accRe, xRow_apply, aRow_apply]
  · pointwise [accIm, xRow_apply, aRow_apply]

/-- The scratch at an element: under the stored lanes the sums, elsewhere zero. -/
theorem scratchVal_apply (i : grid1.Coords) (b : Fin 2) (q : Fin 384) (j : Fin 256) :
    scratchVal (F := Ideal) X A i (ix3 b q j) = if h : j.val % 128 < 96 then
      sumAt X A (i 0) ⟨128 * b.val + q.val % 128, by omega⟩ ⟨q.val / 128, by omega⟩ ⟨j.val % 128, h⟩ ⟨j.val / 128, by omega⟩ else 0 := by
  unfold scratchVal
  by_cases h : j.val % 128 < 96
  · refine (dif_pos h).trans (Eq.trans ?_ (dif_pos h).symm)
    refine (congrArg _ (ix3_eq_valueIdx _ _ _).symm).trans ((stripPay_apply X A i _ _ _ _ _).trans ?_)
    have e : 32 * (4 * b.val + q.val % 128 / 32) + q.val % 32 = 128 * b.val + q.val % 128 := by omega
    congr 1
    exact Fin.ext e
  · refine (dif_neg h).trans (Eq.trans ?_ (dif_neg h).symm)
    exact Ideal.ofBits_zero_bf16

/-- One image of the output block at an element: the product with the weights, then with the inverse table. -/
theorem outPlane_apply (w : FVec Ideal S128x384 .bf16) (Y : FVec Ideal S2x384x256 .bf16) (z : FVec Ideal S256x192 .bf16)
    (b : Fin 2) (o : Fin 128) (l : Fin 192) :
    outPlane (F := Ideal) w Y z b (ix4 0 0 o l) = ∑ j : Fin 256, (∑ q : Fin 384, w (ix2 o q) * Y (ix3 b q j)) * z (ix2 j l) := by
  unfold outPlane
  pointwise [k1_pay477]

/-- An entry of the second call's output: over the frequencies the products with the weights, then with the inverse table. -/
def resynth (w : FVec Ideal S128x384 .bf16) (z : FVec Ideal S256x192 .bf16) (g : Fin 96) (b : Fin 2) (o : Fin 128) (l : Fin 192) : EReal :=
  ∑ j : Fin 256, (∑ q : Fin 384, w (ix2 o q) * (if h : j.val % 128 < 96 then
    sumAt X A g ⟨128 * b.val + q.val % 128, by omega⟩ ⟨q.val / 128, by omega⟩ ⟨j.val % 128, h⟩ ⟨j.val / 128, by omega⟩ else 0)) * z (ix2 j l)

/-- The output block of a point, at an element. -/
theorem point_apply (i : grid1.Coords) (w : FVec Ideal S128x384 .bf16) (z : FVec Ideal S256x192 .bf16) (y : S2x1x128x192.Idx) :
    outVal (F := Ideal) w (scratchVal X A i) z y = resynth X A w z (i 0) (y 0) (y 2) (y 3) := by
  refine (congrArg _ (ix4_eq_valueIdx _ _ _ _).symm).trans ((outPlane_apply w _ z (y 0) (y 2) (y 3)).trans ?_)
  refine Finset.sum_congr rfl fun j _ => congrArg (· * z (ix2 j (y 3))) (Finset.sum_congr rfl fun q _ => ?_)
  exact congrArg (w (ix2 (y 2) q) * ·) (scratchVal_apply X A i (y 0) q j)

/-- Which block of each array the grid's point `t` works on. -/
theorem idx1 (t : Fin grid1.N) : win1_0.index t = ![0, 0, 0] ∧ win1_1.index t = ![0, 0, 0] ∧ win1_2.index t = ![0, 0] ∧ win1_3.index t = ![0, 0]
    ∧ win1_4.index t = ![0, (grid1.coords t 0).val, 0, 0] := by
  revert t; decide +kernel

/-- The inputs' blocks are the whole arrays. -/
theorem iblk1_0 (c : Dev nD) (t : Fin cfg1.N) : iblk1 V c 0 t = V c main_call0_v153 := by
  funext y; blk_ext [iblk1, idx1 t]
theorem iblk1_1 (c : Dev nD) (t : Fin cfg1.N) : iblk1 V c 1 t = V c main_call0_v149 := by
  funext y; blk_ext [iblk1, idx1 t]
theorem iblk1_2 (c : Dev nD) (t : Fin cfg1.N) : iblk1 V c 2 t = V c main_call0_v152 := by
  funext y; blk_ext [iblk1, idx1 t]
theorem iblk1_3 (c : Dev nD) (t : Fin cfg1.N) : iblk1 V c 3 t = V c main_call0_v58 := by
  funext y; blk_ext [iblk1, idx1 t]

/-- **What the second call leaves in its output array.** -/
theorem arr1 (c : Dev nD) : (dat1 V c).arrAt 4 cfg1.N = fun j : S2x96x128x192.Idx =>
    resynth (V c main_call0_v153) (V c main_call0_v149) (V c main_call0_v152) (V c main_call0_v58) (j 1) (j 0) (j 2) (j 3) := by
  refine (dat1 V c).arrAt_eq_of_covers 4 _ (by decide +kernel) fun t hf y => ?_
  blk_simp
  rw [after1_4, outsAt1_eq, iblk1_0, iblk1_1, iblk1_2, iblk1_3]
  refine (point_apply _ _ _ _ _ y).trans ?_
  congr 1 <;> apply Fin.ext <;> blk_simp [idx1 t]

end Cert.Exact
-- ==== Proof.Exact.Stencil.lean ====
/-
The two sides over the real numbers. The reference's sum over all latitudes and longitudes is the sum over the five rows
and nine columns in reach; the kernel's transform, sum over rows, weighting and transform back is the same sum.
-/
module

public import proofs.«01_k».proof.Proof.Exact.HostPsi
public import proofs.«01_k».proof.Proof.Exact.ArrayDft
public import proofs.«01_k».proof.Proof.Exact.ArrayConv
public import Mathlib.Tactic.NormNum
public import Mathlib.Tactic.Ring

@[expose] public section

set_option maxRecDepth 16384

noncomputable section

namespace Cert.Exact

open Cert.KernelIdeal Cert.KernelIdeal.Gen
open Idealize.ShloMosaic Idealize.ShloMosaic.TcCoe
open scoped BigOperators

/-- A sum of real numbers, as an extended real. -/
theorem coe_sum {ι : Type} (s : Finset ι) (f : ι → ℝ) : ((∑ i ∈ s, f i : ℝ) : EReal) = ∑ i ∈ s, ((f i : ℝ) : EReal) :=
  map_sum (⟨⟨((↑) : ℝ → EReal), EReal.coe_zero⟩, EReal.coe_add⟩ : ℝ →+ EReal) f s

variable (x : Fin 2 → Fin 128 → Fin 91 → Fin 180 → ℝ) (p : Fin 3 → Fin 91 → Fin 91 → Fin 180 → ℝ)

/-- Row `r` of an image with two rows of zeros above it and zeros below. -/
def row (b : Fin 2) (i : Fin 128) (r : ℕ) (n : Fin 180) : ℝ := if h : 2 ≤ r ∧ r < 93 then x b i ⟨r - 2, by omega⟩ n else 0

/-- Kernel plane `k` of output latitude `g`, `e` rows down from two above it and `d - 4` columns on; zero outside the grid. -/
def tap (g : Fin 96) (k : Fin 3) (e : Fin 5) (d : Fin 9) : ℝ :=
  p k (rowLat g) (nearLat g e) (nearLon d) * if 2 ≤ g.val + e.val ∧ g.val + e.val < 93 ∧ g.val < 91 then 1 else 0

/-- What one kernel plane makes of one image at an output point: the five rows and nine columns in reach. -/
def stencil (b : Fin 2) (i : Fin 128) (k : Fin 3) (h : Fin 91) (l : Fin 180) : ℝ :=
  ∑ e : Fin 5, ∑ d : Fin 9, tap p ⟨h.val, by omega⟩ k e d * row x b i (h.val + e.val) ⟨(l.val + d.val + 176) % 180, by omega⟩

/-- The reference's sum over the whole grid is the sum over the rows and columns in reach. -/
theorem stencil_eq (hp : ∀ k (o i : Fin 91) (n : Fin 180), ¬((o.val ≤ i.val + 2 ∧ i.val ≤ o.val + 2) ∧ (n.val ≤ 4 ∨ 176 ≤ n.val)) → p k o i n = 0)
    (b : Fin 2) (i : Fin 128) (k : Fin 3) (h : Fin 91) (l : Fin 180) :
    ∑ y : Fin 91, ∑ n : Fin 180, x b i y ⟨(n.val + l.val) % 180, by omega⟩ * p k h y n = stencil x p b i k h l := by
  rw [Circle.near_lat h _ fun y hy => Finset.sum_eq_zero fun n _ => by rw [hp _ _ _ _ fun a => hy a.1, mul_zero]]
  refine Finset.sum_congr rfl fun e _ => ?_
  by_cases hv : 2 ≤ h.val + e.val ∧ h.val + e.val < 93
  · rw [dif_pos hv, Circle.near_lon _ fun n hn => by rw [hp _ _ _ _ fun a => hn a.2, mul_zero]]
    refine Finset.sum_congr rfl fun d _ => ?_
    have e1 : rowLat ⟨h.val, by omega⟩ = h := Fin.ext (show min h.val 90 = h.val by omega)
    have e2 : nearLat ⟨h.val, by omega⟩ e = ⟨h.val + e.val - 2, by omega⟩ := Fin.ext (show min (h.val + e.val - 2) 90 = h.val + e.val - 2 by omega)
    have e3 : (⟨((d.val + 176) % 180 + l.val) % 180, by omega⟩ : Fin 180) = ⟨(l.val + d.val + 176) % 180, by omega⟩ := Fin.ext (by simp only; omega)
    rw [tap, row, e1, e2, if_pos ⟨hv.1, hv.2, h.isLt⟩, dif_pos hv, mul_one, mul_comm]
    exact congrArg _ (congrArg _ e3)
  · rw [dif_neg hv]
    refine (Finset.sum_eq_zero fun d _ => ?_).symm
    rw [row, dif_neg hv, mul_zero]

/-- The channels of the three planes, one after another. -/
theorem sum_planes (F : Fin 3 → Fin 128 → ℝ) : ∑ q : Fin 384, F ⟨q.val / 128, by omega⟩ ⟨q.val % 128, by omega⟩ = ∑ i : Fin 128, ∑ k : Fin 3, F k i := by
  rw [Finset.sum_comm, ← Fintype.sum_prod_type' (f := F)]
  exact (finProdFinEquiv (m := 3) (n := 128)).symm.sum_comp fun a => F a.1 a.2

/-- A sum over the 256 lanes that is zero off the 91 frequencies of each half: real and imaginary parts, frequency by frequency. -/
theorem sum_lanes (T : Fin 256 → EReal) (hT : ∀ j, 91 ≤ j.val % 128 → T j = 0) :
    ∑ j, T j = ∑ f : Fin 91, (T ⟨f.val, by omega⟩ + T ⟨128 + f.val, by omega⟩) := by
  have half : ∀ G : Fin 128 → EReal, (∀ f, 91 ≤ f.val → G f = 0) → ∑ f, G f = ∑ f : Fin 91, G ⟨f.val, by omega⟩ := fun G hG => by
    refine (Fin.sum_univ_add (a := 91) (b := 37) G).trans ?_
    rw [Finset.sum_eq_zero fun (f : Fin 37) _ => hG (Fin.natAdd 91 f) (by simp), add_zero]
    rfl
  refine (Fin.sum_univ_add (a := 128) (b := 128) T).trans ?_
  rw [half _ fun f hf => hT _ (by simpa [Nat.mod_eq_of_lt f.isLt] using hf), half _ fun f hf => hT _ (by simpa [Nat.mod_eq_of_lt f.isLt] using hf), ← Finset.sum_add_distrib]
  rfl

/-- The spectrum of an image's row at a frequency: the real part. -/
def specRe (b : Fin 2) (i : Fin 128) (r : ℕ) (f : ℕ) : ℝ := ∑ n : Fin 180, row x b i r n * Real.cos (Circle.ang f n.val)
/-- Its imaginary part. -/
def specIm (b : Fin 2) (i : Fin 128) (r : ℕ) (f : ℕ) : ℝ := ∑ n : Fin 180, row x b i r n * -Real.sin (Circle.ang f n.val)
/-- The transform of a kernel plane's row: cosine part. -/
def tapCos (g : Fin 96) (k : Fin 3) (e : Fin 5) (f : ℕ) : ℝ := ∑ d : Fin 9, tap p g k e d * Real.cos (Circle.ang f (d.val - 4))
/-- Its sine part. -/
def tapSin (g : Fin 96) (k : Fin 3) (e : Fin 5) (f : ℕ) : ℝ := ∑ d : Fin 9, tap p g k e d * Real.sin (Circle.ang f (d.val - 4))

/-- The product of the two spectra added over the five rows: the real part. -/
def prodRe (g : Fin 96) (k : Fin 3) (b : Fin 2) (i : Fin 128) (f : ℕ) : ℝ :=
  ∑ e : Fin 5, (tapCos p g k e f * specRe x b i (g.val + e.val) f - tapSin p g k e f * specIm x b i (g.val + e.val) f)
/-- The imaginary part. -/
def prodIm (g : Fin 96) (k : Fin 3) (b : Fin 2) (i : Fin 128) (f : ℕ) : ℝ :=
  ∑ e : Fin 5, (tapCos p g k e f * specIm x b i (g.val + e.val) f + tapSin p g k e f * specRe x b i (g.val + e.val) f)

/-- Weighted over planes and channels and transformed back, the product of the spectra is the weighted sum of stencils. -/
theorem back (w : Fin 384 → ℝ) (b : Fin 2) (h : Fin 91) (l : Fin 180) :
    ∑ f : Fin 91, ((∑ q : Fin 384, w q * prodRe x p ⟨h.val, by omega⟩ ⟨q.val / 128, by omega⟩ b ⟨q.val % 128, by omega⟩ f.val) * (Circle.alpha f.val * Real.cos (Circle.ang f.val l.val) / 180)
        + (∑ q : Fin 384, w q * prodIm x p ⟨h.val, by omega⟩ ⟨q.val / 128, by omega⟩ b ⟨q.val % 128, by omega⟩ f.val) * (-Circle.alpha f.val * Real.sin (Circle.ang f.val l.val) / 180))
      = ∑ q : Fin 384, w q * stencil x p b ⟨q.val % 128, by omega⟩ ⟨q.val / 128, by omega⟩ h l := by
  have key := fun q : Fin 384 => Circle.correlate (fun e d => tap p ⟨h.val, by omega⟩ ⟨q.val / 128, by omega⟩ e d)
    (fun e n => row x b ⟨q.val % 128, by omega⟩ (h.val + e.val) n) l
  simp only [stencil]
  rw [Finset.sum_congr rfl fun q _ => congrArg (w q * ·) (key q).symm]
  simp only [Finset.mul_sum (s := (Finset.univ : Finset (Fin 91)))]
  rw [Finset.sum_comm]
  refine Finset.sum_congr rfl fun f _ => ?_
  rw [Finset.sum_mul, Finset.sum_mul, ← Finset.sum_add_distrib]
  refine Finset.sum_congr rfl fun q _ => ?_
  simp only [prodRe, prodIm, tapCos, tapSin, specRe, specIm]
  ring

end Cert.Exact

end
-- ==== Proof.Exact.HostEnd.lean ====
/-
The host operations after the second device call: the result is the call's array with its axes reordered, cut to the
grid, and the bias added.
-/
module

public import proofs.«01_k».proof.Proof.Exact.Host

@[expose] public section

set_option maxRecDepth 16384

noncomputable section

namespace Cert.Exact

open Cert.KernelIdeal Cert.KernelIdeal.Gen
open Idealize.ShloMosaic Idealize.ShloMosaic.TcCoe Idealize.ShloMosaic.StableHlo

/-- The program's result at an index, from the second call's array and the bias. -/
theorem read_v0 (U : Valuation τ sig (Elt Ideal)) (b : Fin 2) (o : Fin 128) (h : Fin 91) (l : Fin 180) :
    after hostOps2 U (Proc.devRef .tc main_v0) (ix4 b o h l)
      = @HAdd.hAdd EReal EReal EReal _ (U (Proc.devRef .tc main_call0_v154) (ix4 b ⟨h.val, by omega⟩ o ⟨l.val, by omega⟩)) (U (Proc.devRef .tc main_arg2) (ix1 o)) := by
  after_reads_at

end Cert.Exact

end
-- ==== Proof.Exact.Reference.lean ====
/-
The reference's result at an index: the circular correlation summed over latitudes and longitudes, mixed over the input
channels and the kernel planes, with the bias added.
-/
module

public import proofs.«01_k».proof.Proof.Gen.ReferenceIdeal.Run
public import Idealize.ShloMosaic.Lib.Pointwise
public import Idealize.ShloMosaic.Lib.Pointwise.IndexBridge

@[expose] public section

set_option maxRecDepth 16384

noncomputable section

namespace Cert.Reference

open Cert.ReferenceIdeal Cert.ReferenceIdeal.Gen
open Idealize.ShloMosaic Idealize.ShloMosaic.TcCoe
open scoped BigOperators

/-- The gather of the input along the longitudes, at an element whose index word is known and in range. -/
theorem gather_lon {α : Type} (x : S2x128x91x180.Idx → α) (idx : IVec S180x180x1 32) (b : Fin 2) (c : Fin 128) (h : Fin 91) (w l a : Fin 180)
    (ha : (idx (ix3 w l 0)).toInt.toNat = a.val) :
    Host.gather gather_S2x128x91x180_S180x180x1_S2x128x91x180x180_012_3_n_n_3_2_2128911 x idx (ix5 b c h w l) = x (ix4 b c h a) := by
  have e : gather_S2x128x91x180_S180x180x1_S2x128x91x180x180_012_3_n_n_3_2_2128911.siIdx (ix5 b c h w l) (0 : Fin 1) = ix3 w l 0 := by
    funext z
    match z with
    | ⟨0, _⟩ => rfl
    | ⟨1, _⟩ => rfl
    | ⟨2, _⟩ => rfl
  refine congrArg x (funext fun z => Fin.ext ?_)
  match z with
  | ⟨0, _⟩ => show 0 + 0 + b.val = b.val; omega
  | ⟨1, _⟩ => show 0 + 0 + c.val = c.val; omega
  | ⟨2, _⟩ => show 0 + 0 + h.val = h.val; omega
  | ⟨3, _⟩ =>
    show min (idx (gather_S2x128x91x180_S180x180x1_S2x128x91x180x180_012_3_n_n_3_2_2128911.siIdx (ix5 b c h w l) (0 : Fin 1))).toInt.toNat 179 + 0 + 0 = a.val
    rw [e, ha]; omega

/-- For each input channel and kernel plane, the plane of the output latitude against the input with its longitudes moved
by the output longitude; weighted and summed, and the bias added. -/
def correlation (x : S2x128x91x180.Idx → EReal) (w : S128x128x3.Idx → EReal) (bias : S128.Idx → EReal) (psi : S3x91x91x180.Idx → EReal)
    (b : Fin 2) (o : Fin 128) (h : Fin 91) (l : Fin 180) : EReal :=
  (∑ i : Fin 128, ∑ k : Fin 3, (∑ y : Fin 91, ∑ n : Fin 180, x (ix4 b i y ⟨(n.val + l.val) % 180, by omega⟩) * psi (ix4 k h y n)) * w (ix3 o i k))
    + bias (ix1 o)

variable (m : (ℓ : Loc nD τ sig) → Buf (Elt Ideal) ℓ) (c : Dev nD)

/-- The reference's result at an index. -/
theorem result (b : Fin 2) (o : Fin 128) (h : Fin 91) (l : Fin 180) :
    Value.res_main_v21 m c (ix4 b o h l)
      = correlation (m ((c.tc : Thread nD τ).loc main_arg0)) (m ((c.tc : Thread nD τ).loc main_arg1)) (m ((c.tc : Thread nD τ).loc main_arg2))
          (m ((c.tc : Thread nD τ).loc main_arg3)) b o h l := by
  pointwise [Value.res_main_v21]
  refine congrArg₂ (fun a b : EReal => a + b) ?_ rfl
  refine Finset.sum_congr (M := EReal) rfl fun i _ => Finset.sum_congr (M := EReal) rfl fun k _ => ?_
  refine congrArg₂ (fun a b : EReal => a * b) ?_ rfl
  refine Finset.sum_congr (M := EReal) rfl fun y _ => Finset.sum_congr (M := EReal) rfl fun w _ => ?_
  refine congrArg₂ (fun a b : EReal => a * b) ?_ rfl
  apply gather_lon
  pointwise
  revert w l
  decide +kernel

end Cert.Reference

end
-- ==== Proof.Exact.Whole.lean ====
/-
The whole program: the host operations before the device calls, the two calls, the host operations after them. The
contents of every array at each boundary are named (`W0` at launch to `W4` at the end); the program runs to the end
without a fault, ends with every array at `W4`, and so leaves its arguments as they were.
-/
module

public import proofs.«01_k».proof.Proof.Exact.Conv
public import Idealize.ShloMosaic.Lib.Pipeline.RegionsLoop
public import Idealize.ShloMosaic.Lib.Pipeline.FrameSuffix

@[expose] public section

set_option maxRecDepth 16384

noncomputable section

namespace Cert.Exact

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2, main_arg3]

/-- No host operation before the calls makes a new buffer. -/
theorem hostOps0_fresh : (hostOps0 : List (HloOp τ sig (Elt F))).Forall fun op => op.fresh = ∅ := by
  simp only [List.Forall]; repeat' constructor
/-- The arrays the host operations before the calls write, in order. -/
abbrev hostOps0_W : List (Ref sig .tc) := [main_call0_v0, main_call0_v1, main_call0_c, main_call0_call0_v0, main_call0_v2, main_call0_v3, main_call0_v4, main_call0_v5, main_call0_cst, main_call0_v6, main_call0_cst_0, main_call0_v7, main_call0_v8, main_call0_v9, main_call0_v10, main_call0_v11, main_call0_v12, main_call0_v13, main_call0_v14, main_call0_cst_1, main_call0_v15, main_call0_v16, main_call0_cst_2, main_call0_v17, main_call0_v18, main_call0_c_3, main_call0_v19, main_call0_v20, main_call0_v21, main_call0_v22, main_call0_c_4, main_call0_v23, main_call0_v24, main_call0_cst_5, main_call0_v25, main_call0_v26, main_call0_cst_6, main_call0_v27, main_call0_v28, main_call0_v29, main_call0_cst_7, main_call0_cst_8, main_call0_call1_v0, main_call0_call1_v1, main_call0_v30, main_call0_cst_9, main_call0_v31, main_call0_v32, main_call0_v33, main_call0_v34, main_call0_v35, main_call0_v36, main_call0_v37, main_call0_cst_10, main_call0_v38, main_call0_v39, main_call0_c_11, main_call0_v40, main_call0_c_12, main_call0_v41, main_call0_v42, main_call0_v43, main_call0_v44, main_call0_v45, main_call0_v46, main_call0_v47, main_call0_v48, main_call0_v49, main_call0_v50, main_call0_cst_13, main_call0_v51, main_call0_v52, main_call0_c_14, main_call0_v53, main_call0_c_15, main_call0_v54, main_call0_v55, main_call0_v56, main_call0_v57, main_call0_v58, main_call0_v59, main_call0_c_16, main_call0_v60, main_call0_v61, main_call0_v62, main_call0_v63, main_call0_v64, main_call0_v65, main_call0_v66, main_call0_v67, main_call0_c_17, main_call0_v68, main_call0_v69, main_call0_c_18, main_call0_v70, main_call0_v71, main_call0_c_19, main_call0_v72, main_call0_v73, main_call0_v74, main_call0_c_20, main_call0_v75, main_call0_v76, main_call0_v77, main_call0_v78, main_call0_v79, main_call0_c_21, main_call0_c_22, main_call0_call2_v0, main_call0_call2_v1, main_call0_call2_v2, main_call0_call2_v3, main_call0_call2_v4, main_call0_v80, main_call0_v81, main_call0_c_23, main_call0_v82, main_call0_v83, main_call0_c_24, main_call0_call3_v0, main_call0_call3_c, main_call0_call3_v1, main_call0_call3_c_0, main_call0_call3_v2, main_call0_call3_v3, main_call0_call3_v4, main_call0_call3_c_1, main_call0_call3_v5, main_call0_call3_v6, main_call0_call3_c_2, main_call0_call3_v7, main_call0_call3_v8, main_call0_call3_c_3, main_call0_call3_v9, main_call0_call3_v10, main_call0_call3_v11, main_call0_call3_v12, main_call0_call3_v13, main_call0_call3_v14, main_call0_v84, main_call0_v85, main_call0_v86, main_call0_v87, main_call0_c_25, main_call0_v88, main_call0_v89, main_call0_c_26, main_call0_v90, main_call0_v91, main_call0_v92, main_call0_c_27, main_call0_v93, main_call0_v94, main_call0_c_28, main_call0_v95, main_call0_v96, main_call0_v97, main_call0_c_29, main_call0_v98, main_call0_v99, main_call0_c_30, main_call0_v100, main_call0_v101, main_call0_v102, main_call0_v103, main_call0_v104, main_call0_v105, main_call0_v106, main_call0_v107, main_call0_v108, main_call0_v109, main_call0_v110, main_call0_v111, main_call0_v112, main_call0_v113, main_call0_v114, main_call0_v115, main_call0_v116, main_call0_v117, main_call0_cst_31, main_call0_v118, main_call0_v119, main_call0_cst_32, main_call0_v120, main_call0_cst_33, main_call0_v121, main_call0_v122, main_call0_v123, main_call0_v124, main_call0_v125, main_call0_v126, main_call0_v127, main_call0_v128, main_call0_cst_34, main_call0_v129, main_call0_v130, main_call0_v131, main_call0_v132, main_call0_v133, main_call0_v134, main_call0_v135, main_call0_v136, main_call0_cst_35, main_call0_v137, main_call0_v138, main_call0_v139, main_call0_v140, main_call0_v141, main_call0_v142, main_call0_v143, main_call0_cst_36, main_call0_v144, main_call0_v145, main_call0_v146, main_call0_v147, main_call0_v148, main_call0_c_37, main_call0_call4_v0, main_call0_v149, main_call0_v150, main_call0_v151, main_call0_v152]
/-- They write no other array. -/
theorem hostOps0_writes : (hostOps0 : List (HloOp τ sig (Elt F))).Forall fun op => op.writes ⊆ (hostOps0_W.map (Proc.devRef (τ := τ) .tc)).toFinset :=
  StableHlo.forall_writes_sub_of_map rfl
/-- They write no argument. -/
theorem hostOps0_args : ∀ a ∈ argRefs, a ∉ hostOps0_W := ListAll.forall_mem_of_all_decide (by decide +kernel)

/-- No host operation after the calls makes a new buffer. -/
theorem hostOps2_fresh : (hostOps2 : List (HloOp τ sig (Elt F))).Forall fun op => op.fresh = ∅ := by
  simp only [List.Forall]; repeat' constructor
/-- The arrays the host operations after the calls write, in order. -/
abbrev hostOps2_W : List (Ref sig .tc) := [main_call0_v155, main_call0_v156, main_call0_v157, main_call0_v158, main_v0]
/-- They write no other array. -/
theorem hostOps2_writes : (hostOps2 : List (HloOp τ sig (Elt F))).Forall fun op => op.writes ⊆ (hostOps2_W.map (Proc.devRef (τ := τ) .tc)).toFinset :=
  StableHlo.forall_writes_sub_of_map rfl
/-- They write no argument. -/
theorem hostOps2_args : ∀ a ∈ argRefs, a ∉ hostOps2_W := ListAll.forall_mem_of_all_decide (by decide +kernel)

/-- Every array at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- Every array after the first host operations. -/
abbrev W1 : Dev nD → Valuation τ sig (Elt F) := fun c => StableHlo.after hostOps0 (W0 m ρ c)
/-- An array they do not write is as at launch. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same, as the first call takes it. -/
abbrev V1 : (c : Dev nD) → (b : Ref sig .tc) → Buf (Elt F) ((c : Thread nD τ).loc b) := fun c b => W1 m ρ c b
/-- Every array after the first call. -/
def W2 (c : Dev nD) : Valuation τ sig (Elt F) :=
  Pipeline.withArrays spec0 c (W1 m ρ c) fun w => (dat0 (V1 m ρ) c).arrAt w cfg0.N
/-- An array of the first call, after it, is what its pipeline leaves. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- An array that is none of the first call's is as before it. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An array that is not an output of the first call is as before it. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- No argument is an output of the first call. -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same, as the second call takes it. -/
abbrev V2 : (c : Dev nD) → (b : Ref sig .tc) → Buf (Elt F) ((c : Thread nD τ).loc b) := fun c b => W2 m ρ c b
/-- The first call's arrays after it, and the others, as the library's lemma on a call's exit takes them. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- Every array after the second call. -/
def W3 (c : Dev nD) : Valuation τ sig (Elt F) :=
  Pipeline.withArrays spec1 c (W2 m ρ c) fun w => (dat1 (V2 m ρ) c).arrAt w cfg1.N
/-- An array of the second call, after it, is what its pipeline leaves. -/
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
/-- An array that is none of the second call's is as before it. -/
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- An array that is not an output of the second call is as before it. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- No argument is an output of the second call. -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same, as the last host operations take it. -/
abbrev V3 : (c : Dev nD) → (b : Ref sig .tc) → Buf (Elt F) ((c : Thread nD τ).loc b) := fun c b => W3 m ρ c b
/-- The second call's arrays after it, and the others, as the library's lemma on a call's exit takes them. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- Every array at the end. -/
abbrev W4 : Dev nD → Valuation τ sig (Elt F) := fun c => StableHlo.after hostOps2 (W3 m ρ c)
/-- An array the last host operations do not write is as before them. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
/-- The arguments end as launched. -/
theorem W4_args (c : Dev nD) : ∀ a ∈ argRefs, W4 m ρ c (Proc.devRef .tc a) = m ((c : Thread nD τ).loc a) :=
  fun a ha => (W4_of m ρ c a (hostOps2_args a ha)).trans (W3_args m ρ c a ha)

/-- Neither call has a prefetched table. -/
abbrev adm : (p : Fin 2) → (pcfgs (F := F) p).Adm := fun p => (cfgs p).toPCfg_adm
/-- The data of the two calls, each at the contents it is entered with. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
/-- No loop carries a variant. -/
abbrev 𝒱₀ : Variants := Variants.none
/-- No core owes another anything. -/
abbrev L : GSem nD τ sig → Finset Unit := fun _ => ∅
abbrev lv : GSem nD τ sig → Unit → ℕ := fun _ _ => 0
/-- What rides along beside the arrays: the generator register and the core's empty debt. -/
abbrev R (c : Dev nD) : sProp 𝕄 := iprop((∃ r, prngReg c r) ∗ ∃ W, owes (c : Thread nD τ) (0 : CellTallies nD τ sig Unit) W)
/-- A stretch of host operations as a segment of the run, from contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An array that outlives the calls is among those the run's state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The state at the end: every array at `W4`. -/
abbrev Tₙ (c : Dev nD) : sProp 𝕄 := iprop(StableHlo.held (c : Thread nD τ) (Pipeline.ucRefs τ sig) (W4 m ρ c) ∗ ∃ r, prngReg c r)
set_option backward.isDefEq.respectTransparency.types false in
/-- The first call as a segment of the run: entered at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
/-- The second call as a segment of the run: entered at `W2`, left at `W3`; its scratch is carried inside. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin (V2 m ρ) c)
    unfold Pipeline.ΦA
    iintro ⟨Hp, -, Hr⟩
    isplitl [Hr]; · iexact Hr
    iexact Hp
  hout c := by
    rw [Pipeline.ownSems0_none]
    refine BIBase.Entails.trans (hout (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The four segments of the program. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- The program is the run of its segments. -/
theorem main_run (c : Dev nD) : main (F := F) c = Pipeline.Seg.run (segs m ρ) := (main_chain c).trans (by chain_rfl)

/-- Every semaphore belongs to a call. -/
theorem no_unscoped : ∀ sm : SemLoc sig, sm.isScoped .tc = true := by decide
set_option backward.isDefEq.respectTransparency.types false in
/-- The program, from any memory with zero counters, runs to the end without a fault; then every array that outlives the
    calls is at `W4` and every counter is zero. -/
theorem run_end : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The program runs to the end without a fault, leaves its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨(h.1 c _ (mem_uc main_arg0 (by decide))).trans (W4_args m ρ c _ (by decide)),
       (h.1 c _ (mem_uc main_arg1 (by decide))).trans (W4_args m ρ c _ (by decide)),
       (h.1 c _ (mem_uc main_arg2 (by decide))).trans (W4_args m ρ c _ (by decide)),
       (h.1 c _ (mem_uc main_arg3 (by decide))).trans (W4_args m ρ c _ (by decide))⟩, h.2⟩) (run_end m ρ)

end Cert.Exact

end
-- ==== Proof.Exact.Value.lean ====
/-
The kernel's result. Where the arguments are real numbers the host's tables, the first call's spectrum, the second call's
sums and its transform back are real numbers too, and the result at an index is the reference's correlation.
-/
module

public import proofs.«01_k».proof.Proof.Exact.Stencil
public import proofs.«01_k».proof.Proof.Exact.HostEnd
public import proofs.«01_k».proof.Proof.Exact.Reference
public import proofs.«01_k».proof.Proof.Exact.Whole

@[expose] public section

set_option maxRecDepth 16384

noncomputable section

namespace Cert.Exact

open Cert.KernelIdeal Cert.KernelIdeal.Gen
open Idealize.ShloMosaic Idealize.ShloMosaic.TcCoe
open scoped BigOperators

variable {x : Fin 2 → Fin 128 → Fin 91 → Fin 180 → ℝ} {p : Fin 3 → Fin 91 → Fin 91 → Fin 180 → ℝ}
variable {I : FVec Ideal S100x256x180 .bf16} {T : FVec Ideal S180x256 .bf16} {A : FVec Ideal S96x30x96 .f32}
  {w : FVec Ideal S128x384 .bf16} {z : FVec Ideal S256x192 .bf16}

/-- The image handed to the first call is the padded input. -/
abbrev IsImage (x : Fin 2 → Fin 128 → Fin 91 → Fin 180 → ℝ) (I : FVec Ideal S100x256x180 .bf16) : Prop :=
  ∀ (r : Fin 100) (q : Fin 256) (n : Fin 180), I (ix3 r q n) = ((row x ⟨q.val / 128, by omega⟩ ⟨q.val % 128, by omega⟩ r.val n : ℝ) : EReal)
/-- The table handed to the first call is the transform's. -/
abbrev IsForward (T : FVec Ideal S180x256 .bf16) : Prop := ∀ (n : Fin 180) (j : Fin 256), T (ix2 n j) = ((fwdTab n.val j.val : ℝ) : EReal)
/-- The coefficients handed to the second call are the transforms of the kernel planes' rows in reach. -/
abbrev IsCoef (p : Fin 3 → Fin 91 → Fin 91 → Fin 180 → ℝ) (A : FVec Ideal S96x30x96 .f32) : Prop :=
  ∀ (g : Fin 96) (n : Fin 30) (f : Fin 96), f.val < 91 → A (ix3 g n f)
    = ∑ d : Fin 9, ((tap p g ⟨n.val / 10, by omega⟩ ⟨n.val / 2 % 5, by omega⟩ d : ℝ) : EReal)
        * (((if n.val % 2 = 0 then Real.cos else Real.sin) (Circle.ang f.val ((d.val : ℝ) - 4)) : ℝ) : EReal)
/-- The table handed to the second call is that of the transform back. -/
abbrev IsInverse (z : FVec Ideal S256x192 .bf16) : Prop := ∀ (j : Fin 256) (l : Fin 192), z (ix2 j l) = ((invTab j.val l.val : ℝ) : EReal)

/-- Image `128 b + i` is the pair `(b, i)`. -/
theorem image_split (b : Fin 2) (i : Fin 128) (r : ℕ) (n : Fin 180) (q : Fin 256) (hq : q.val = 128 * b.val + i.val) :
    row x ⟨q.val / 128, by omega⟩ ⟨q.val % 128, by omega⟩ r n = row x b i r n := by
  have e1 : (⟨q.val / 128, by omega⟩ : Fin 2) = b := Fin.ext (by simp only; omega)
  have e2 : (⟨q.val % 128, by omega⟩ : Fin 128) = i := Fin.ext (by simp only; omega)
  rw [e1, e2]

/-- The spectrum's real part at one of the 91 frequencies. -/
theorem reAt_eq (hI : IsImage x I) (hT : IsForward T) (g : Fin 96) (b : Fin 2) (i : Fin 128) (f : Fin 96) (hf : f.val < 91) (e : Fin 5) :
    reAt (spectrum I T) g ⟨128 * b.val + i.val, by omega⟩ f e = ((specRe x b i (g.val + e.val) f.val : ℝ) : EReal) := by
  rw [specRe, coe_sum, reAt, spectrum]
  refine Finset.sum_congr (M := EReal) rfl fun n _ => ?_
  refine (congrArg₂ (fun a b : EReal => a * b) (hI ⟨g.val + e.val, by omega⟩ ⟨128 * b.val + i.val, by omega⟩ n) (hT n ⟨f.val, by omega⟩)).trans ?_
  rw [image_split b i _ n _ rfl, ← EReal.coe_mul, fwdTab, if_neg (by simp only; omega), if_pos hf]

/-- Its imaginary part. -/
theorem imAt_eq (hI : IsImage x I) (hT : IsForward T) (g : Fin 96) (b : Fin 2) (i : Fin 128) (f : Fin 96) (hf : f.val < 91) (e : Fin 5) :
    imAt (spectrum I T) g ⟨128 * b.val + i.val, by omega⟩ f e = ((specIm x b i (g.val + e.val) f.val : ℝ) : EReal) := by
  rw [specIm, coe_sum, imAt, spectrum]
  refine Finset.sum_congr (M := EReal) rfl fun n _ => ?_
  refine (congrArg₂ (fun a b : EReal => a * b) (hI ⟨g.val + e.val, by omega⟩ ⟨128 * b.val + i.val, by omega⟩ n) (hT n ⟨128 + f.val, by omega⟩)).trans ?_
  rw [image_split b i _ n _ rfl, ← EReal.coe_mul, fwdTab, if_pos (by simp only; omega)]
  simp only [Nat.add_sub_cancel_left]

/-- A coefficient at one of the 91 frequencies: the cosine part and the sine part. -/
theorem coefAt_eq (hA : IsCoef p A) (g : Fin 96) (k : Fin 3) (f : Fin 96) (hf : f.val < 91) (e : Fin 5) :
    coefAt A g k 0 f e = ((tapCos p g k e f.val : ℝ) : EReal) ∧ coefAt A g k 1 f e = ((tapSin p g k e f.val : ℝ) : EReal) := by
  have e0 : ∀ s : Fin 2, (⟨(aIx k e s).val / 10, by omega⟩ : Fin 3) = k ∧ (⟨(aIx k e s).val / 2 % 5, by omega⟩ : Fin 5) = e ∧ (aIx k e s).val % 2 = s.val :=
    fun s => ⟨Fin.ext (by simp only [aIx]; omega), Fin.ext (by simp only [aIx]; omega), by simp only [aIx]; omega⟩
  refine ⟨(hA g (aIx k e 0) f hf).trans ?_, (hA g (aIx k e 1) f hf).trans ?_⟩
  · rw [(e0 0).1, (e0 0).2.1, (e0 0).2.2, tapCos, coe_sum]
    exact Finset.sum_congr rfl fun d _ => (EReal.coe_mul _ _).symm
  · rw [(e0 1).1, (e0 1).2.1, (e0 1).2.2, tapSin, coe_sum]
    exact Finset.sum_congr rfl fun d _ => (EReal.coe_mul _ _).symm

/-- The sums over the five rows. -/
theorem sumAt_eq (hI : IsImage x I) (hT : IsForward T) (hA : IsCoef p A) (g : Fin 96) (k : Fin 3) (b : Fin 2) (i : Fin 128) (f : Fin 96) (hf : f.val < 91) :
    sumAt (spectrum I T) A g ⟨128 * b.val + i.val, by omega⟩ k f 0 = ((prodRe x p g k b i f.val : ℝ) : EReal)
      ∧ sumAt (spectrum I T) A g ⟨128 * b.val + i.val, by omega⟩ k f 1 = ((prodIm x p g k b i f.val : ℝ) : EReal) := by
  refine ⟨?_, ?_⟩
  · rw [sumAt, if_pos rfl, prodRe, Fin.sum_univ_five]
    simp only [List.foldl, reAt_eq hI hT g b i f hf, imAt_eq hI hT g b i f hf, (coefAt_eq hA g k f hf _).1, (coefAt_eq hA g k f hf _).2,
      zero_add, ← EReal.coe_mul, ← EReal.coe_add, ← EReal.coe_sub]
    congr 1
    ring
  · rw [sumAt, if_neg (by decide), prodIm, Fin.sum_univ_five]
    simp only [List.foldl, reAt_eq hI hT g b i f hf, imAt_eq hI hT g b i f hf, (coefAt_eq hA g k f hf _).1, (coefAt_eq hA g k f hf _).2,
      zero_add, ← EReal.coe_mul, ← EReal.coe_add]
    congr 1
    ring

/-- A lane of the second call's scratch row is the sum at its frequency and part. -/
theorem lane {X : FVec Ideal S100x256x256 .f32} (g : Fin 96) (q : Fin 256) (k : Fin 3) (j : Fin 256) (f : Fin 96) (s : Fin 2)
    (h1 : j.val % 128 = f.val) (h2 : j.val / 128 = s.val) :
    (if h : j.val % 128 < 96 then sumAt X A g q k ⟨j.val % 128, h⟩ ⟨j.val / 128, by omega⟩ else 0) = sumAt X A g q k f s :=
  (dif_pos (by omega)).trans (congrArg₂ (sumAt X A g q k) (Fin.ext h1) (Fin.ext h2))

/-- The second call's result on the grid: the weighted sum of stencils. -/
theorem resynth_eq (hI : IsImage x I) (hT : IsForward T) (hA : IsCoef p A) (hz : IsInverse z) (wr : Fin 128 → Fin 384 → ℝ)
    (hw : ∀ o q, w (ix2 o q) = ((wr o q : ℝ) : EReal)) (h : Fin 91) (b : Fin 2) (o : Fin 128) (l : Fin 180) :
    resynth (spectrum I T) A w z ⟨h.val, by omega⟩ b o ⟨l.val, by omega⟩
      = ((∑ q : Fin 384, wr o q * stencil x p b ⟨q.val % 128, by omega⟩ ⟨q.val / 128, by omega⟩ h l : ℝ) : EReal) := by
  rw [resynth, sum_lanes _ fun j hj => by rw [hz, invTab, if_neg (by omega), if_neg (by omega), EReal.coe_zero, mul_zero], ← back, coe_sum]
  refine Finset.sum_congr rfl fun f _ => ?_
  have hf := f.isLt
  rw [EReal.coe_add, EReal.coe_mul, EReal.coe_mul, coe_sum, coe_sum, hz, hz, invTab, invTab, if_neg (by simp only; omega), if_pos (by simp only; omega),
    if_pos (by simp only; omega)]
  refine congrArg₂ (fun a b : EReal => a + b) (congrArg₂ (fun a b : EReal => a * b) (Finset.sum_congr rfl fun q _ => ?_) rfl)
    (congrArg₂ (fun a b : EReal => a * b) (Finset.sum_congr rfl fun q _ => ?_) (by simp only [Nat.add_sub_cancel_left]))
  · rw [EReal.coe_mul, hw]
    refine congrArg _ ((lane _ _ _ _ ⟨f.val, by omega⟩ 0 (by simp only; omega) (by simp only [Fin.val_zero]; omega)).trans ?_)
    exact (sumAt_eq hI hT hA _ _ b ⟨q.val % 128, by omega⟩ ⟨f.val, by omega⟩ hf).1
  · rw [EReal.coe_mul, hw]
    refine congrArg _ ((lane _ _ _ _ ⟨f.val, by omega⟩ 1 (by simp only; omega) (by simp only [Fin.val_one]; omega)).trans ?_)
    exact (sumAt_eq hI hT hA _ _ b ⟨q.val % 128, by omega⟩ ⟨f.val, by omega⟩ hf).2

end Cert.Exact

end
-- ==== Proof.Given.lean ====
/-
What the precondition says of the arguments: every entry of the input, of the weight and of the kernel planes is a real
number, and a kernel plane is zero away from its own latitude and from longitude zero.
-/
module

public import proofs.«01_k».proof.Pre_pre
public import Idealize.ShloMosaic.Lib.Pointwise
public import Idealize.ShloMosaic.Lib.ReduceAll
public import Idealize.ShloMosaic.Lib.Affine
public import Idealize.ShloMosaic.Lib.IdealHost

@[expose] public section

noncomputable section

namespace Cert.Given

open Cert.Pre_pre
open Idealize.ShloMosaic

/-- The side conditions the precondition's operations take. -/
theorem facts : Cert.Pre_pre.Facts where
  bcast_S_S3x91x91x180 := by decide
  bcast_S_S2x128x91x180 := by decide
  reducesTo_S2x128x91x180_S_d0_1_2_3 := by decide
  h_S_ := by decide
  bcast_S_S128x128x3 := by decide
  reducesTo_S128x128x3_S_d0_1_2 := by decide
  reducesTo_S3x91x91x180_S_d0_1_2_3 := by decide

/-- An extended real whose absolute value is below infinity is the real number it reads as. -/
theorem coe_of_abs_lt (a : EReal) (h : FloatOps.cmpf (F := Ideal) (φ := .f32) .olt (FloatOps.absf a) (FloatOps.ofBits .f32 0x7F800000#32) = 1#1) :
    a = ((a.toReal : ℝ) : EReal) := by
  induction a with
  | bot => exact absurd h (by simp [Ideal.cmpf_def, Ideal.cmp, FloatOps.absf, Ideal.ofBits, Ideal.ieee])
  | top => exact absurd h (by simp [Ideal.cmpf_def, Ideal.cmp, FloatOps.absf, Ideal.ofBits, Ideal.ieee])
  | coe r => rfl

/-- The support test of the precondition, read: a latitude within two rows and a longitude within four columns of zero. -/
theorem support (o i : Fin 91) (w : Fin 180)
    (h : IntOp.andi (IntOp.cmpi .sle (IntOp.absi (IntOp.subi (BitVec.ofNat 32 i.val) (BitVec.ofNat 32 o.val))) 2#32)
      (IntOp.ori (IntOp.cmpi .sle (BitVec.ofNat 32 w.val) 4#32) (IntOp.cmpi .sge (BitVec.ofNat 32 w.val) 176#32)) = 1#1) :
    (o.val ≤ i.val + 2 ∧ i.val ≤ o.val + 2) ∧ (w.val ≤ 4 ∨ 176 ≤ w.val) := by
  have e1 : IntOp.cmpi .sle (IntOp.absi (IntOp.subi (BitVec.ofNat 32 i.val) (BitVec.ofNat 32 o.val))) 2#32 = 1#1 → o.val ≤ i.val + 2 ∧ i.val ≤ o.val + 2 := by
    clear h; revert o i; decide +kernel
  have e2 : IntOp.cmpi .sle (BitVec.ofNat 32 w.val) 4#32 = 1#1 → w.val ≤ 4 := by clear h e1; revert w; decide +kernel
  have e3 : IntOp.cmpi .sge (BitVec.ofNat 32 w.val) 176#32 = 1#1 → 176 ≤ w.val := by clear h e1 e2; revert w; decide +kernel
  obtain ⟨h1, h2⟩ := IntOp.andi_eq_one.mp h
  exact ⟨e1 h1, (IntOp.ori_eq_one.mp h2).imp e2 e3⟩

variable (x : FVec Ideal S2x128x91x180 .f32) (w : FVec Ideal S128x128x3 .f32) (b : FVec Ideal S128 .f32) (p : FVec Ideal S3x91x91x180 .f32)

/-- The precondition, read at an index of each argument. -/
theorem read (h : letI := facts; fn (F := Ideal) x w b p = fun _ => 1#1) :
    (∀ i, x i = (((x i).toReal : ℝ) : EReal)) ∧ (∀ i, w i = (((w i).toReal : ℝ) : EReal)) ∧ (∀ i, p i = (((p i).toReal : ℝ) : EReal))
      ∧ ∀ (k : Fin 3) (o i : Fin 91) (n : Fin 180), ¬((o.val ≤ i.val + 2 ∧ i.val ≤ o.val + 2) ∧ (n.val ≤ 4 ∨ 176 ≤ n.val)) → p (ix4 k o i n) = 0 := by
  letI := facts
  have h := congrFun h ValueIdx.ix0
  dsimp only [fn, fn_part1] at h
  obtain ⟨h, h4⟩ := IntOp.andi_eq_one.mp h
  obtain ⟨h, h3⟩ := IntOp.andi_eq_one.mp h
  obtain ⟨h1, h2⟩ := IntOp.andi_eq_one.mp h
  refine ⟨fun i => coe_of_abs_lt _ (Host.reduce_andi_all _ _ _ _ _ h1 i), fun i => coe_of_abs_lt _ (Host.reduce_andi_all _ _ _ _ _ h2 i),
    fun i => coe_of_abs_lt _ (Host.reduce_andi_all _ _ _ _ _ h3 i), fun k o i n hn => ?_⟩
  have e := Host.reduce_andi_all _ _ _ _ _ h4 (ix4 k o i n)
  refine (IntOp.ori_eq_one.mp e).elim (fun e => absurd (support o i n e) hn) fun e => ?_
  have e : FloatOps.cmpf (F := Ideal) (φ := .f32) .oeq (p (ix4 k o i n)) (FloatOps.ofBits .f32 0x00000000#32) = 1#1 := e
  rw [Ideal.cmpf_def] at e
  have z : FloatOps.ofBits (F := Ideal) .f32 0x00000000#32 = (0 : EReal) := by simp [Ideal.ofBits, Ideal.ieee]
  rw [z] at e
  by_contra hz
  exact absurd e (by simp [Ideal.cmp, hz])

end Cert.Given

end
-- ==== Proof.Exact.Meet.lean ====
/-
The kernel meets the reference: under the precondition the program's result, at every index, is the reference's
correlation of its arguments.
-/
module

public import proofs.«01_k».proof.Proof.Exact.Value
public import proofs.«01_k».proof.Proof.Given

@[expose] public section

set_option maxRecDepth 16384

noncomputable section

namespace Cert.Exact

open Cert.KernelIdeal Cert.KernelIdeal.Gen
open Idealize.ShloMosaic Idealize.ShloMosaic.TcCoe
open scoped BigOperators

/-- The reference's correlation of real arrays: the weighted sum of stencils, and the bias. -/
theorem correlation_eq (X : S2x128x91x180.Idx → EReal) (K : S128x128x3.Idx → EReal) (B : S128.Idx → EReal) (P : S3x91x91x180.Idx → EReal)
    (hX : ∀ i, X i = (((X i).toReal : ℝ) : EReal)) (hK : ∀ i, K i = (((K i).toReal : ℝ) : EReal)) (hP : ∀ i, P i = (((P i).toReal : ℝ) : EReal))
    (hs : ∀ (k : Fin 3) (o i : Fin 91) (n : Fin 180), ¬((o.val ≤ i.val + 2 ∧ i.val ≤ o.val + 2) ∧ (n.val ≤ 4 ∨ 176 ≤ n.val)) → P (ix4 k o i n) = 0)
    (b : Fin 2) (o : Fin 128) (h : Fin 91) (l : Fin 180) :
    Reference.correlation X K B P b o h l
      = ((∑ q : Fin 384, (K (ix3 o ⟨q.val % 128, by omega⟩ ⟨q.val / 128, by omega⟩)).toReal
          * stencil (fun b i y n => (X (ix4 b i y n)).toReal) (fun k o y n => (P (ix4 k o y n)).toReal) b ⟨q.val % 128, by omega⟩ ⟨q.val / 128, by omega⟩ h l : ℝ) : EReal)
        + B (ix1 o) := by
  refine congrArg (· + B (ix1 o)) ?_
  rw [sum_planes (fun k i => (K (ix3 o i k)).toReal * stencil (fun b i y n => (X (ix4 b i y n)).toReal) (fun k o y n => (P (ix4 k o y n)).toReal) b i k h l), coe_sum]
  refine Finset.sum_congr rfl fun i _ => ?_
  rw [coe_sum]
  refine Finset.sum_congr rfl fun k _ => ?_
  rw [EReal.coe_mul, ← hK, mul_comm, ← stencil_eq _ _ (fun k o y n hn => by rw [hs k o y n hn, EReal.toReal_zero]) b i k h l, coe_sum]
  refine congrArg _ (Finset.sum_congr rfl fun y _ => ?_)
  rw [coe_sum]
  refine Finset.sum_congr rfl fun n _ => ?_
  rw [EReal.coe_mul, ← hX, ← hP]

variable (m : (ℓ : Loc nD τ sig) → Buf (Elt Ideal) ℓ) (ρ : Dev nD → PrngReg)

/-- Under the precondition the program's result at an index is the reference's correlation of its arguments. -/
theorem result (c : Dev nD)
    (hm : letI := Given.facts; Cert.Pre_pre.fn (F := Ideal) (m ((c.tc : Thread nD τ).loc main_arg0)) (m ((c.tc : Thread nD τ).loc main_arg1))
      (m ((c.tc : Thread nD τ).loc main_arg2)) (m ((c.tc : Thread nD τ).loc main_arg3)) = fun _ => 1#1)
    (b : Fin 2) (o : Fin 128) (h : Fin 91) (l : Fin 180) :
    W4 m ρ c (Proc.devRef .tc main_v0) (ix4 b o h l)
      = Reference.correlation (m ((c.tc : Thread nD τ).loc main_arg0)) (m ((c.tc : Thread nD τ).loc main_arg1)) (m ((c.tc : Thread nD τ).loc main_arg2))
          (m ((c.tc : Thread nD τ).loc main_arg3)) b o h l := by
  obtain ⟨hX, hK, hP, hs⟩ := Given.read _ _ _ _ hm
  refine (read_v0 (W3 m ρ c) b o h l).trans (Eq.trans ?_ (correlation_eq _ _ _ _ hX hK hP hs b o h l).symm)
  refine congrArg₂ (fun a b : EReal => a + b) ?_ (congrFun (W3_args m ρ c main_arg2 (by decide)) (ix1 o))
  have e0 : V2 m ρ c main_call0_v153 = spectrum (V1 m ρ c main_call0_v3) (V1 m ρ c main_call0_v57) := (W2_arr m ρ c 2).trans (arr0 (V1 m ρ) c)
  have e1 : W3 m ρ c (Proc.devRef .tc main_call0_v154) = _ := (W3_arr m ρ c 4).trans (arr1 (V2 m ρ) c)
  have e2 : V2 m ρ c main_call0_v149 = V1 m ρ c main_call0_v149 := W2_of m ρ c _ (by decide)
  have e3 : V2 m ρ c main_call0_v152 = V1 m ρ c main_call0_v152 := W2_of m ρ c _ (by decide)
  have e4 : V2 m ρ c main_call0_v58 = V1 m ρ c main_call0_v58 := W2_of m ρ c _ (by decide)
  rw [e0, e2, e3, e4] at e1
  refine (congrFun e1 (ix4 b ⟨h.val, by omega⟩ o ⟨l.val, by omega⟩)).trans ?_
  have z3 : IsImage (fun b i y n => EReal.toReal (m ((c.tc : Thread nD τ).loc main_arg0) (ix4 b i y n))) (V1 m ρ c main_call0_v3) := fun r q n => by
    refine (read_v3 (W0 m ρ c) r q n).trans ?_
    rw [row]
    by_cases hr : 2 ≤ r.val ∧ r.val < 93
    · exact (dif_pos hr).trans ((hX _).trans (by rw [dif_pos hr]))
    · exact (dif_neg hr).trans (by rw [dif_neg hr, EReal.coe_zero])
  have z149 : IsCoef (fun k o y n => EReal.toReal (m ((c.tc : Thread nD τ).loc main_arg3) (ix4 k o y n))) (V1 m ρ c main_call0_v149) := fun g n f hf => by
    refine ((read_v149 (W0 m ρ c) g n f).trans (if_pos hf)).trans ?_
    refine Finset.sum_congr (M := EReal) rfl fun d _ => congrArg₂ (fun a b : EReal => a * b) ?_ rfl
    rw [near, tap, EReal.coe_mul]
    refine congrArg₂ (fun a b : EReal => a * b) (hP _) ?_
    split_ifs <;> rfl
  exact resynth_eq z3 (read_v57 (W0 m ρ c)) z149 (read_v58 (W0 m ρ c))
    (fun o q => EReal.toReal (m ((c.tc : Thread nD τ).loc main_arg1) (ix3 o ⟨q.val % 128, by omega⟩ ⟨q.val / 128, by omega⟩)))
    (fun o q => (read_v152 (W0 m ρ c) o q).trans (hK _)) h b o l

end Cert.Exact

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Machine.Whole
public import proofs.«01_k».proof.Proof.Exact.Meet
public import Idealize.ShloMosaic.Adequacy
public import Idealize.ShloMosaic.Init

@[expose] public section

noncomputable section

namespace Cert.Proof

open Idealize.ShloMosaic Idealize.SL.Sem

/-- The reference runs to the end, leaves its arguments as they were, and has no semaphore. -/
theorem reference_runs : letI := Cert.ReferenceIdeal.Gen.facts; Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Under the precondition the kernel and the reference, run on equal arguments, end with the same result. -/
theorem same_result : letI := Cert.KernelIdeal.Gen.facts; letI := Cert.ReferenceIdeal.Gen.facts; letI := Cert.Given.facts;
    Cert.algebraic_KernelIdeal_ReferenceIdeal_pre_pre := fun m g m' g' hpre hargs => by
  refine ⟨fun c => Exact.W4 m g c (Proc.devRef .tc Cert.KernelIdeal.main_v0), ?_, ?_⟩
  · refine (θ_run Cert.KernelIdeal.defs _ _).mono (fun _ h c => ?_) (Exact.run_end (F := Ideal) m g)
    exact ⟨h.1 c _ (Exact.mem_uc Cert.KernelIdeal.main_v0 (by decide)),
      (h.1 c _ (Exact.mem_uc Cert.KernelIdeal.main_arg0 (by decide))).trans (Exact.W4_args m g c _ (by decide)),
      (h.1 c _ (Exact.mem_uc Cert.KernelIdeal.main_arg1 (by decide))).trans (Exact.W4_args m g c _ (by decide)),
      (h.1 c _ (Exact.mem_uc Cert.KernelIdeal.main_arg2 (by decide))).trans (Exact.W4_args m g c _ (by decide)),
      (h.1 c _ (Exact.mem_uc Cert.KernelIdeal.main_arg3 (by decide))).trans (Exact.W4_args m g c _ (by decide))⟩
  · refine (θ_run Cert.ReferenceIdeal.defs _ _).mono (fun r h c => ⟨((h c).1).trans (funext fun j => ?_), (h c).2⟩)
      (Cert.ReferenceIdeal.Value.run (F := Ideal) m' g')
    idx_vars j
    refine (Reference.result m' c _ _ _ _).trans (Eq.trans ?_ (Exact.result m g c (hpre c) _ _ _ _).symm)
    rw [(hargs c).1, (hargs c).2.1, (hargs c).2.2.1, (hargs c).2.2.2]

/-- All the claims. -/
theorem claim : Cert.Claim := ⟨Cert.Kernel.Gen.facts, Cert.KernelIdeal.Gen.facts, Cert.ReferenceIdeal.Gen.facts, Cert.Given.facts,
  fun m ρ _ => Machine.frame m ρ, fun m ρ _ => Exact.frame m ρ, fun m ρ _ => Exact.frame m ρ, reference_runs, fun m ρ _ => reference_runs m ρ trivial,
  trivial, same_result⟩

end Cert.Proof

end
